-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInRefIdeal (m : (ℓ : Loc Cert.GmlpInRefIdeal.nD Cert.GmlpInRefIdeal.τ Cert.GmlpInRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_GmlpOutRefIdeal (m : (ℓ : Loc Cert.GmlpOutRefIdeal.nD Cert.GmlpOutRefIdeal.τ Cert.GmlpOutRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_CtxKv (m : (ℓ : Loc Cert.CtxKv.nD Cert.CtxKv.τ Cert.CtxKv.sig) → Buf (Elt Bits) ℓ) : Prop :=
  True

def Pre_CtxKvIdeal (m : (ℓ : Loc Cert.CtxKvIdeal.nD Cert.CtxKvIdeal.τ Cert.CtxKvIdeal.sig) → Buf (Elt Ideal) ℓ) : Prop :=
  True

def Pre_CtxKvRefIdeal (m : (ℓ : Loc Cert.CtxKvRefIdeal.nD Cert.CtxKvRefIdeal.τ Cert.CtxKvRefIdeal.sig) → Buf (Elt Ideal) ℓ) : Prop :=
  True

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_ResLnRefIdeal (m : (ℓ : Loc Cert.ResLnRefIdeal.nD Cert.ResLnRefIdeal.τ Cert.ResLnRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepRefIdeal (m : (ℓ : Loc Cert.QkPrepRefIdeal.nD Cert.QkPrepRefIdeal.τ Cert.QkPrepRefIdeal.sig) → Buf (Elt Ideal) ℓ) : Prop :=
  True

def Pre_KcPrep (m : (ℓ : Loc Cert.KcPrep.nD Cert.KcPrep.τ Cert.KcPrep.sig) → Buf (Elt Bits) ℓ) : Prop :=
  True

def Pre_KcPrepIdeal (m : (ℓ : Loc Cert.KcPrepIdeal.nD Cert.KcPrepIdeal.τ Cert.KcPrepIdeal.sig) → Buf (Elt Ideal) ℓ) : Prop :=
  True

def Pre_KcPrepRefIdeal (m : (ℓ : Loc Cert.KcPrepRefIdeal.nD Cert.KcPrepRefIdeal.τ Cert.KcPrepRefIdeal.sig) → Buf (Elt Ideal) ℓ) : Prop :=
  True

def Pre_ResLnMod (m : (ℓ : Loc Cert.ResLnMod.nD Cert.ResLnMod.τ Cert.ResLnMod.sig) → Buf (Elt Bits) ℓ) : Prop :=
  True

def Pre_ResLnModIdeal (m : (ℓ : Loc Cert.ResLnModIdeal.nD Cert.ResLnModIdeal.τ Cert.ResLnModIdeal.sig) → Buf (Elt Ideal) ℓ) : Prop :=
  True

def Pre_ResLnModRefIdeal (m : (ℓ : Loc Cert.ResLnModRefIdeal.nD Cert.ResLnModRefIdeal.τ Cert.ResLnModRefIdeal.sig) → Buf (Elt Ideal) ℓ) : Prop :=
  True

def Pre_ModVec (m : (ℓ : Loc Cert.ModVec.nD Cert.ModVec.τ Cert.ModVec.sig) → Buf (Elt Bits) ℓ) : Prop :=
  True

def Pre_ModVecIdeal (m : (ℓ : Loc Cert.ModVecIdeal.nD Cert.ModVecIdeal.τ Cert.ModVecIdeal.sig) → Buf (Elt Ideal) ℓ) : Prop :=
  True

def Pre_ModVecRefIdeal (m : (ℓ : Loc Cert.ModVecRefIdeal.nD Cert.ModVecRefIdeal.τ Cert.ModVecRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1))
      ∧ r.2.sem = fun _ => 0)

def quiescent_GmlpOutRefIdeal [hGmlpOutRefIdeal : Cert.GmlpOutRefIdeal.Facts] : Prop :=
  ∀ (m : (ℓ : Loc Cert.GmlpOutRefIdeal.nD Cert.GmlpOutRefIdeal.τ Cert.GmlpOutRefIdeal.sig) → Buf (Elt Ideal) ℓ) (g : Dev Cert.GmlpOutRefIdeal.nD → PrngReg), Pre_GmlpOutRefIdeal m →
    θ_run (Cert.GmlpOutRefIdeal.defs (F := Ideal)) (onTc (τ := Cert.GmlpOutRefIdeal.τ) (Cert.GmlpOutRefIdeal.main (F := Ideal))) ⟨m, fun _ => 0, g⟩ (fun r => (∀ c : Dev Cert.GmlpOutRefIdeal.nD,
      r.2.mem ((c.tc : Thread Cert.GmlpOutRefIdeal.nD Cert.GmlpOutRefIdeal.τ).loc Cert.GmlpOutRefIdeal.main_arg0) = m ((c.tc : Thread Cert.GmlpOutRefIdeal.nD Cert.GmlpOutRefIdeal.τ).loc Cert.GmlpOutRefIdeal.main_arg0)
      ∧ r.2.mem ((c.tc : Thread Cert.GmlpOutRefIdeal.nD Cert.GmlpOutRefIdeal.τ).loc Cert.GmlpOutRefIdeal.main_arg1) = m ((c.tc : Thread Cert.GmlpOutRefIdeal.nD Cert.GmlpOutRefIdeal.τ).loc Cert.GmlpOutRefIdeal.main_arg1))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1))
      ∧ r.2.sem = fun _ => 0)

def quiescent_CtxKv [hCtxKv : Cert.CtxKv.Facts] : Prop :=
  ∀ (m : (ℓ : Loc Cert.CtxKv.nD Cert.CtxKv.τ Cert.CtxKv.sig) → Buf (Elt Bits) ℓ) (g : Dev Cert.CtxKv.nD → PrngReg), Pre_CtxKv m →
    θ_run (Cert.CtxKv.defs (F := Bits)) (onTc (τ := Cert.CtxKv.τ) (Cert.CtxKv.main (F := Bits))) ⟨m, fun _ => 0, g⟩ (fun r => (∀ c : Dev Cert.CtxKv.nD,
      r.2.mem ((c.tc : Thread Cert.CtxKv.nD Cert.CtxKv.τ).loc Cert.CtxKv.main_arg0) = m ((c.tc : Thread Cert.CtxKv.nD Cert.CtxKv.τ).loc Cert.CtxKv.main_arg0)
      ∧ r.2.mem ((c.tc : Thread Cert.CtxKv.nD Cert.CtxKv.τ).loc Cert.CtxKv.main_arg1) = m ((c.tc : Thread Cert.CtxKv.nD Cert.CtxKv.τ).loc Cert.CtxKv.main_arg1))
      ∧ r.2.sem = fun _ => 0)

def quiescent_CtxKvIdeal [hCtxKvIdeal : Cert.CtxKvIdeal.Facts] : Prop :=
  ∀ (m : (ℓ : Loc Cert.CtxKvIdeal.nD Cert.CtxKvIdeal.τ Cert.CtxKvIdeal.sig) → Buf (Elt Ideal) ℓ) (g : Dev Cert.CtxKvIdeal.nD → PrngReg), Pre_CtxKvIdeal m →
    θ_run (Cert.CtxKvIdeal.defs (F := Ideal)) (onTc (τ := Cert.CtxKvIdeal.τ) (Cert.CtxKvIdeal.main (F := Ideal))) ⟨m, fun _ => 0, g⟩ (fun r => (∀ c : Dev Cert.CtxKvIdeal.nD,
      r.2.mem ((c.tc : Thread Cert.CtxKvIdeal.nD Cert.CtxKvIdeal.τ).loc Cert.CtxKvIdeal.main_arg0) = m ((c.tc : Thread Cert.CtxKvIdeal.nD Cert.CtxKvIdeal.τ).loc Cert.CtxKvIdeal.main_arg0)
      ∧ r.2.mem ((c.tc : Thread Cert.CtxKvIdeal.nD Cert.CtxKvIdeal.τ).loc Cert.CtxKvIdeal.main_arg1) = m ((c.tc : Thread Cert.CtxKvIdeal.nD Cert.CtxKvIdeal.τ).loc Cert.CtxKvIdeal.main_arg1))
      ∧ r.2.sem = fun _ => 0)

def quiescent_CtxKvRefIdeal [hCtxKvRefIdeal : Cert.CtxKvRefIdeal.Facts] : Prop :=
  ∀ (m : (ℓ : Loc Cert.CtxKvRefIdeal.nD Cert.CtxKvRefIdeal.τ Cert.CtxKvRefIdeal.sig) → Buf (Elt Ideal) ℓ) (g : Dev Cert.CtxKvRefIdeal.nD → PrngReg), Pre_CtxKvRefIdeal m →
    θ_run (Cert.CtxKvRefIdeal.defs (F := Ideal)) (onTc (τ := Cert.CtxKvRefIdeal.τ) (Cert.CtxKvRefIdeal.main (F := Ideal))) ⟨m, fun _ => 0, g⟩ (fun r => (∀ c : Dev Cert.CtxKvRefIdeal.nD,
      r.2.mem ((c.tc : Thread Cert.CtxKvRefIdeal.nD Cert.CtxKvRefIdeal.τ).loc Cert.CtxKvRefIdeal.main_arg0) = m ((c.tc : Thread Cert.CtxKvRefIdeal.nD Cert.CtxKvRefIdeal.τ).loc Cert.CtxKvRefIdeal.main_arg0)
      ∧ r.2.mem ((c.tc : Thread Cert.CtxKvRefIdeal.nD Cert.CtxKvRefIdeal.τ).loc Cert.CtxKvRefIdeal.main_arg1) = m ((c.tc : Thread Cert.CtxKvRefIdeal.nD Cert.CtxKvRefIdeal.τ).loc Cert.CtxKvRefIdeal.main_arg1))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3)
      ∧ r.2.mem ((c.tc : Thread Cert.ResLn.nD Cert.ResLn.τ).loc Cert.ResLn.main_arg4) = m ((c.tc : Thread Cert.ResLn.nD Cert.ResLn.τ).loc Cert.ResLn.main_arg4)
      ∧ r.2.mem ((c.tc : Thread Cert.ResLn.nD Cert.ResLn.τ).loc Cert.ResLn.main_arg5) = m ((c.tc : Thread Cert.ResLn.nD Cert.ResLn.τ).loc Cert.ResLn.main_arg5)
      ∧ r.2.mem ((c.tc : Thread Cert.ResLn.nD Cert.ResLn.τ).loc Cert.ResLn.main_arg6) = m ((c.tc : Thread Cert.ResLn.nD Cert.ResLn.τ).loc Cert.ResLn.main_arg6))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
      ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4)
      ∧ r.2.mem ((c.tc : Thread Cert.ResLnIdeal.nD Cert.ResLnIdeal.τ).loc Cert.ResLnIdeal.main_arg5) = m ((c.tc : Thread Cert.ResLnIdeal.nD Cert.ResLnIdeal.τ).loc Cert.ResLnIdeal.main_arg5)
      ∧ r.2.mem ((c.tc : Thread Cert.ResLnIdeal.nD Cert.ResLnIdeal.τ).loc Cert.ResLnIdeal.main_arg6) = m ((c.tc : Thread Cert.ResLnIdeal.nD Cert.ResLnIdeal.τ).loc Cert.ResLnIdeal.main_arg6))
      ∧ r.2.sem = fun _ => 0)

def quiescent_ResLnRefIdeal [hResLnRefIdeal : Cert.ResLnRefIdeal.Facts] : Prop :=
  ∀ (m : (ℓ : Loc Cert.ResLnRefIdeal.nD Cert.ResLnRefIdeal.τ Cert.ResLnRefIdeal.sig) → Buf (Elt Ideal) ℓ) (g : Dev Cert.ResLnRefIdeal.nD → PrngReg), Pre_ResLnRefIdeal m →
    θ_run (Cert.ResLnRefIdeal.defs (F := Ideal)) (onTc (τ := Cert.ResLnRefIdeal.τ) (Cert.ResLnRefIdeal.main (F := Ideal))) ⟨m, fun _ => 0, g⟩ (fun r => (∀ c : Dev Cert.ResLnRefIdeal.nD,
      r.2.mem ((c.tc : Thread Cert.ResLnRefIdeal.nD Cert.ResLnRefIdeal.τ).loc Cert.ResLnRefIdeal.main_arg0) = m ((c.tc : Thread Cert.ResLnRefIdeal.nD Cert.ResLnRefIdeal.τ).loc Cert.ResLnRefIdeal.main_arg0)
      ∧ r.2.mem ((c.tc : Thread Cert.ResLnRefIdeal.nD Cert.ResLnRefIdeal.τ).loc Cert.ResLnRefIdeal.main_arg1) = m ((c.tc : Thread Cert.ResLnRefIdeal.nD Cert.ResLnRefIdeal.τ).loc Cert.ResLnRefIdeal.main_arg1)
      ∧ r.2.mem ((c.tc : Thread Cert.ResLnRefIdeal.nD Cert.ResLnRefIdeal.τ).loc Cert.ResLnRefIdeal.main_arg2) = m ((c.tc : Thread Cert.ResLnRefIdeal.nD Cert.ResLnRefIdeal.τ).loc Cert.ResLnRefIdeal.main_arg2)
      ∧ r.2.mem ((c.tc : Thread Cert.ResLnRefIdeal.nD Cert.ResLnRefIdeal.τ).loc Cert.ResLnRefIdeal.main_arg3) = m ((c.tc : Thread Cert.ResLnRefIdeal.nD Cert.ResLnRefIdeal.τ).loc Cert.ResLnRefIdeal.main_arg3)
      ∧ r.2.mem ((c.tc : Thread Cert.ResLnRefIdeal.nD Cert.ResLnRefIdeal.τ).loc Cert.ResLnRefIdeal.main_arg4) = m ((c.tc : Thread Cert.ResLnRefIdeal.nD Cert.ResLnRefIdeal.τ).loc Cert.ResLnRefIdeal.main_arg4)
      ∧ r.2.mem ((c.tc : Thread Cert.ResLnRefIdeal.nD Cert.ResLnRefIdeal.τ).loc Cert.ResLnRefIdeal.main_arg5) = m ((c.tc : Thread Cert.ResLnRefIdeal.nD Cert.ResLnRefIdeal.τ).loc Cert.ResLnRefIdeal.main_arg5)
      ∧ r.2.mem ((c.tc : Thread Cert.ResLnRefIdeal.nD Cert.ResLnRefIdeal.τ).loc Cert.ResLnRefIdeal.main_arg6) = m ((c.tc : Thread Cert.ResLnRefIdeal.nD Cert.ResLnRefIdeal.τ).loc Cert.ResLnRefIdeal.main_arg6))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2))
      ∧ r.2.sem = fun _ => 0)

def quiescent_QkPrepRefIdeal [hQkPrepRefIdeal : Cert.QkPrepRefIdeal.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2))
      ∧ r.2.sem = fun _ => 0)

def quiescent_KcPrep [hKcPrep : Cert.KcPrep.Facts] : Prop :=
  ∀ (m : (ℓ : Loc Cert.KcPrep.nD Cert.KcPrep.τ Cert.KcPrep.sig) → Buf (Elt Bits) ℓ) (g : Dev Cert.KcPrep.nD → PrngReg), Pre_KcPrep m →
    θ_run (Cert.KcPrep.defs (F := Bits)) (onTc (τ := Cert.KcPrep.τ) (Cert.KcPrep.main (F := Bits))) ⟨m, fun _ => 0, g⟩ (fun r => (∀ c : Dev Cert.KcPrep.nD,
      r.2.mem ((c.tc : Thread Cert.KcPrep.nD Cert.KcPrep.τ).loc Cert.KcPrep.main_arg0) = m ((c.tc : Thread Cert.KcPrep.nD Cert.KcPrep.τ).loc Cert.KcPrep.main_arg0)
      ∧ r.2.mem ((c.tc : Thread Cert.KcPrep.nD Cert.KcPrep.τ).loc Cert.KcPrep.main_arg1) = m ((c.tc : Thread Cert.KcPrep.nD Cert.KcPrep.τ).loc Cert.KcPrep.main_arg1))
      ∧ r.2.sem = fun _ => 0)

def quiescent_KcPrepIdeal [hKcPrepIdeal : Cert.KcPrepIdeal.Facts] : Prop :=
  ∀ (m : (ℓ : Loc Cert.KcPrepIdeal.nD Cert.KcPrepIdeal.τ Cert.KcPrepIdeal.sig) → Buf (Elt Ideal) ℓ) (g : Dev Cert.KcPrepIdeal.nD → PrngReg), Pre_KcPrepIdeal m →
    θ_run (Cert.KcPrepIdeal.defs (F := Ideal)) (onTc (τ := Cert.KcPrepIdeal.τ) (Cert.KcPrepIdeal.main (F := Ideal))) ⟨m, fun _ => 0, g⟩ (fun r => (∀ c : Dev Cert.KcPrepIdeal.nD,
      r.2.mem ((c.tc : Thread Cert.KcPrepIdeal.nD Cert.KcPrepIdeal.τ).loc Cert.KcPrepIdeal.main_arg0) = m ((c.tc : Thread Cert.KcPrepIdeal.nD Cert.KcPrepIdeal.τ).loc Cert.KcPrepIdeal.main_arg0)
      ∧ r.2.mem ((c.tc : Thread Cert.KcPrepIdeal.nD Cert.KcPrepIdeal.τ).loc Cert.KcPrepIdeal.main_arg1) = m ((c.tc : Thread Cert.KcPrepIdeal.nD Cert.KcPrepIdeal.τ).loc Cert.KcPrepIdeal.main_arg1))
      ∧ r.2.sem = fun _ => 0)

def quiescent_KcPrepRefIdeal [hKcPrepRefIdeal : Cert.KcPrepRefIdeal.Facts] : Prop :=
  ∀ (m : (ℓ : Loc Cert.KcPrepRefIdeal.nD Cert.KcPrepRefIdeal.τ Cert.KcPrepRefIdeal.sig) → Buf (Elt Ideal) ℓ) (g : Dev Cert.KcPrepRefIdeal.nD → PrngReg), Pre_KcPrepRefIdeal m →
    θ_run (Cert.KcPrepRefIdeal.defs (F := Ideal)) (onTc (τ := Cert.KcPrepRefIdeal.τ) (Cert.KcPrepRefIdeal.main (F := Ideal))) ⟨m, fun _ => 0, g⟩ (fun r => (∀ c : Dev Cert.KcPrepRefIdeal.nD,
      r.2.mem ((c.tc : Thread Cert.KcPrepRefIdeal.nD Cert.KcPrepRefIdeal.τ).loc Cert.KcPrepRefIdeal.main_arg0) = m ((c.tc : Thread Cert.KcPrepRefIdeal.nD Cert.KcPrepRefIdeal.τ).loc Cert.KcPrepRefIdeal.main_arg0)
      ∧ r.2.mem ((c.tc : Thread Cert.KcPrepRefIdeal.nD Cert.KcPrepRefIdeal.τ).loc Cert.KcPrepRefIdeal.main_arg1) = m ((c.tc : Thread Cert.KcPrepRefIdeal.nD Cert.KcPrepRefIdeal.τ).loc Cert.KcPrepRefIdeal.main_arg1))
      ∧ r.2.sem = fun _ => 0)

def quiescent_ResLnMod [hResLnMod : Cert.ResLnMod.Facts] : Prop :=
  ∀ (m : (ℓ : Loc Cert.ResLnMod.nD Cert.ResLnMod.τ Cert.ResLnMod.sig) → Buf (Elt Bits) ℓ) (g : Dev Cert.ResLnMod.nD → PrngReg), Pre_ResLnMod m →
    θ_run (Cert.ResLnMod.defs (F := Bits)) (onTc (τ := Cert.ResLnMod.τ) (Cert.ResLnMod.main (F := Bits))) ⟨m, fun _ => 0, g⟩ (fun r => (∀ c : Dev Cert.ResLnMod.nD,
      r.2.mem ((c.tc : Thread Cert.ResLnMod.nD Cert.ResLnMod.τ).loc Cert.ResLnMod.main_arg0) = m ((c.tc : Thread Cert.ResLnMod.nD Cert.ResLnMod.τ).loc Cert.ResLnMod.main_arg0)
      ∧ r.2.mem ((c.tc : Thread Cert.ResLnMod.nD Cert.ResLnMod.τ).loc Cert.ResLnMod.main_arg1) = m ((c.tc : Thread Cert.ResLnMod.nD Cert.ResLnMod.τ).loc Cert.ResLnMod.main_arg1)
      ∧ r.2.mem ((c.tc : Thread Cert.ResLnMod.nD Cert.ResLnMod.τ).loc Cert.ResLnMod.main_arg2) = m ((c.tc : Thread Cert.ResLnMod.nD Cert.ResLnMod.τ).loc Cert.ResLnMod.main_arg2)
      ∧ r.2.mem ((c.tc : Thread Cert.ResLnMod.nD Cert.ResLnMod.τ).loc Cert.ResLnMod.main_arg3) = m ((c.tc : Thread Cert.ResLnMod.nD Cert.ResLnMod.τ).loc Cert.ResLnMod.main_arg3)
      ∧ r.2.mem ((c.tc : Thread Cert.ResLnMod.nD Cert.ResLnMod.τ).loc Cert.ResLnMod.main_arg4) = m ((c.tc : Thread Cert.ResLnMod.nD Cert.ResLnMod.τ).loc Cert.ResLnMod.main_arg4)
      ∧ r.2.mem ((c.tc : Thread Cert.ResLnMod.nD Cert.ResLnMod.τ).loc Cert.ResLnMod.main_arg5) = m ((c.tc : Thread Cert.ResLnMod.nD Cert.ResLnMod.τ).loc Cert.ResLnMod.main_arg5)
      ∧ r.2.mem ((c.tc : Thread Cert.ResLnMod.nD Cert.ResLnMod.τ).loc Cert.ResLnMod.main_arg6) = m ((c.tc : Thread Cert.ResLnMod.nD Cert.ResLnMod.τ).loc Cert.ResLnMod.main_arg6))
      ∧ r.2.sem = fun _ => 0)

def quiescent_ResLnModIdeal [hResLnModIdeal : Cert.ResLnModIdeal.Facts] : Prop :=
  ∀ (m : (ℓ : Loc Cert.ResLnModIdeal.nD Cert.ResLnModIdeal.τ Cert.ResLnModIdeal.sig) → Buf (Elt Ideal) ℓ) (g : Dev Cert.ResLnModIdeal.nD → PrngReg), Pre_ResLnModIdeal m →
    θ_run (Cert.ResLnModIdeal.defs (F := Ideal)) (onTc (τ := Cert.ResLnModIdeal.τ) (Cert.ResLnModIdeal.main (F := Ideal))) ⟨m, fun _ => 0, g⟩ (fun r => (∀ c : Dev Cert.ResLnModIdeal.nD,
      r.2.mem ((c.tc : Thread Cert.ResLnModIdeal.nD Cert.ResLnModIdeal.τ).loc Cert.ResLnModIdeal.main_arg0) = m ((c.tc : Thread Cert.ResLnModIdeal.nD Cert.ResLnModIdeal.τ).loc Cert.ResLnModIdeal.main_arg0)
      ∧ r.2.mem ((c.tc : Thread Cert.ResLnModIdeal.nD Cert.ResLnModIdeal.τ).loc Cert.ResLnModIdeal.main_arg1) = m ((c.tc : Thread Cert.ResLnModIdeal.nD Cert.ResLnModIdeal.τ).loc Cert.ResLnModIdeal.main_arg1)
      ∧ r.2.mem ((c.tc : Thread Cert.ResLnModIdeal.nD Cert.ResLnModIdeal.τ).loc Cert.ResLnModIdeal.main_arg2) = m ((c.tc : Thread Cert.ResLnModIdeal.nD Cert.ResLnModIdeal.τ).loc Cert.ResLnModIdeal.main_arg2)
      ∧ r.2.mem ((c.tc : Thread Cert.ResLnModIdeal.nD Cert.ResLnModIdeal.τ).loc Cert.ResLnModIdeal.main_arg3) = m ((c.tc : Thread Cert.ResLnModIdeal.nD Cert.ResLnModIdeal.τ).loc Cert.ResLnModIdeal.main_arg3)
      ∧ r.2.mem ((c.tc : Thread Cert.ResLnModIdeal.nD Cert.ResLnModIdeal.τ).loc Cert.ResLnModIdeal.main_arg4) = m ((c.tc : Thread Cert.ResLnModIdeal.nD Cert.ResLnModIdeal.τ).loc Cert.ResLnModIdeal.main_arg4)
      ∧ r.2.mem ((c.tc : Thread Cert.ResLnModIdeal.nD Cert.ResLnModIdeal.τ).loc Cert.ResLnModIdeal.main_arg5) = m ((c.tc : Thread Cert.ResLnModIdeal.nD Cert.ResLnModIdeal.τ).loc Cert.ResLnModIdeal.main_arg5)
      ∧ r.2.mem ((c.tc : Thread Cert.ResLnModIdeal.nD Cert.ResLnModIdeal.τ).loc Cert.ResLnModIdeal.main_arg6) = m ((c.tc : Thread Cert.ResLnModIdeal.nD Cert.ResLnModIdeal.τ).loc Cert.ResLnModIdeal.main_arg6))
      ∧ r.2.sem = fun _ => 0)

def quiescent_ResLnModRefIdeal [hResLnModRefIdeal : Cert.ResLnModRefIdeal.Facts] : Prop :=
  ∀ (m : (ℓ : Loc Cert.ResLnModRefIdeal.nD Cert.ResLnModRefIdeal.τ Cert.ResLnModRefIdeal.sig) → Buf (Elt Ideal) ℓ) (g : Dev Cert.ResLnModRefIdeal.nD → PrngReg), Pre_ResLnModRefIdeal m →
    θ_run (Cert.ResLnModRefIdeal.defs (F := Ideal)) (onTc (τ := Cert.ResLnModRefIdeal.τ) (Cert.ResLnModRefIdeal.main (F := Ideal))) ⟨m, fun _ => 0, g⟩ (fun r => (∀ c : Dev Cert.ResLnModRefIdeal.nD,
      r.2.mem ((c.tc : Thread Cert.ResLnModRefIdeal.nD Cert.ResLnModRefIdeal.τ).loc Cert.ResLnModRefIdeal.main_arg0) = m ((c.tc : Thread Cert.ResLnModRefIdeal.nD Cert.ResLnModRefIdeal.τ).loc Cert.ResLnModRefIdeal.main_arg0)
      ∧ r.2.mem ((c.tc : Thread Cert.ResLnModRefIdeal.nD Cert.ResLnModRefIdeal.τ).loc Cert.ResLnModRefIdeal.main_arg1) = m ((c.tc : Thread Cert.ResLnModRefIdeal.nD Cert.ResLnModRefIdeal.τ).loc Cert.ResLnModRefIdeal.main_arg1)
      ∧ r.2.mem ((c.tc : Thread Cert.ResLnModRefIdeal.nD Cert.ResLnModRefIdeal.τ).loc Cert.ResLnModRefIdeal.main_arg2) = m ((c.tc : Thread Cert.ResLnModRefIdeal.nD Cert.ResLnModRefIdeal.τ).loc Cert.ResLnModRefIdeal.main_arg2)
      ∧ r.2.mem ((c.tc : Thread Cert.ResLnModRefIdeal.nD Cert.ResLnModRefIdeal.τ).loc Cert.ResLnModRefIdeal.main_arg3) = m ((c.tc : Thread Cert.ResLnModRefIdeal.nD Cert.ResLnModRefIdeal.τ).loc Cert.ResLnModRefIdeal.main_arg3)
      ∧ r.2.mem ((c.tc : Thread Cert.ResLnModRefIdeal.nD Cert.ResLnModRefIdeal.τ).loc Cert.ResLnModRefIdeal.main_arg4) = m ((c.tc : Thread Cert.ResLnModRefIdeal.nD Cert.ResLnModRefIdeal.τ).loc Cert.ResLnModRefIdeal.main_arg4)
      ∧ r.2.mem ((c.tc : Thread Cert.ResLnModRefIdeal.nD Cert.ResLnModRefIdeal.τ).loc Cert.ResLnModRefIdeal.main_arg5) = m ((c.tc : Thread Cert.ResLnModRefIdeal.nD Cert.ResLnModRefIdeal.τ).loc Cert.ResLnModRefIdeal.main_arg5)
      ∧ r.2.mem ((c.tc : Thread Cert.ResLnModRefIdeal.nD Cert.ResLnModRefIdeal.τ).loc Cert.ResLnModRefIdeal.main_arg6) = m ((c.tc : Thread Cert.ResLnModRefIdeal.nD Cert.ResLnModRefIdeal.τ).loc Cert.ResLnModRefIdeal.main_arg6))
      ∧ r.2.sem = fun _ => 0)

def quiescent_ModVec [hModVec : Cert.ModVec.Facts] : Prop :=
  ∀ (m : (ℓ : Loc Cert.ModVec.nD Cert.ModVec.τ Cert.ModVec.sig) → Buf (Elt Bits) ℓ) (g : Dev Cert.ModVec.nD → PrngReg), Pre_ModVec m →
    θ_run (Cert.ModVec.defs (F := Bits)) (onTc (τ := Cert.ModVec.τ) (Cert.ModVec.main (F := Bits))) ⟨m, fun _ => 0, g⟩ (fun r => (∀ c : Dev Cert.ModVec.nD,
      r.2.mem ((c.tc : Thread Cert.ModVec.nD Cert.ModVec.τ).loc Cert.ModVec.main_arg0) = m ((c.tc : Thread Cert.ModVec.nD Cert.ModVec.τ).loc Cert.ModVec.main_arg0)
      ∧ r.2.mem ((c.tc : Thread Cert.ModVec.nD Cert.ModVec.τ).loc Cert.ModVec.main_arg1) = m ((c.tc : Thread Cert.ModVec.nD Cert.ModVec.τ).loc Cert.ModVec.main_arg1)
      ∧ r.2.mem ((c.tc : Thread Cert.ModVec.nD Cert.ModVec.τ).loc Cert.ModVec.main_arg2) = m ((c.tc : Thread Cert.ModVec.nD Cert.ModVec.τ).loc Cert.ModVec.main_arg2)
      ∧ r.2.mem ((c.tc : Thread Cert.ModVec.nD Cert.ModVec.τ).loc Cert.ModVec.main_arg3) = m ((c.tc : Thread Cert.ModVec.nD Cert.ModVec.τ).loc Cert.ModVec.main_arg3))
      ∧ r.2.sem = fun _ => 0)

def quiescent_ModVecIdeal [hModVecIdeal : Cert.ModVecIdeal.Facts] : Prop :=
  ∀ (m : (ℓ : Loc Cert.ModVecIdeal.nD Cert.ModVecIdeal.τ Cert.ModVecIdeal.sig) → Buf (Elt Ideal) ℓ) (g : Dev Cert.ModVecIdeal.nD → PrngReg), Pre_ModVecIdeal m →
    θ_run (Cert.ModVecIdeal.defs (F := Ideal)) (onTc (τ := Cert.ModVecIdeal.τ) (Cert.ModVecIdeal.main (F := Ideal))) ⟨m, fun _ => 0, g⟩ (fun r => (∀ c : Dev Cert.ModVecIdeal.nD,
      r.2.mem ((c.tc : Thread Cert.ModVecIdeal.nD Cert.ModVecIdeal.τ).loc Cert.ModVecIdeal.main_arg0) = m ((c.tc : Thread Cert.ModVecIdeal.nD Cert.ModVecIdeal.τ).loc Cert.ModVecIdeal.main_arg0)
      ∧ r.2.mem ((c.tc : Thread Cert.ModVecIdeal.nD Cert.ModVecIdeal.τ).loc Cert.ModVecIdeal.main_arg1) = m ((c.tc : Thread Cert.ModVecIdeal.nD Cert.ModVecIdeal.τ).loc Cert.ModVecIdeal.main_arg1)
      ∧ r.2.mem ((c.tc : Thread Cert.ModVecIdeal.nD Cert.ModVecIdeal.τ).loc Cert.ModVecIdeal.main_arg2) = m ((c.tc : Thread Cert.ModVecIdeal.nD Cert.ModVecIdeal.τ).loc Cert.ModVecIdeal.main_arg2)
      ∧ r.2.mem ((c.tc : Thread Cert.ModVecIdeal.nD Cert.ModVecIdeal.τ).loc Cert.ModVecIdeal.main_arg3) = m ((c.tc : Thread Cert.ModVecIdeal.nD Cert.ModVecIdeal.τ).loc Cert.ModVecIdeal.main_arg3))
      ∧ r.2.sem = fun _ => 0)

def quiescent_ModVecRefIdeal [hModVecRefIdeal : Cert.ModVecRefIdeal.Facts] : Prop :=
  ∀ (m : (ℓ : Loc Cert.ModVecRefIdeal.nD Cert.ModVecRefIdeal.τ Cert.ModVecRefIdeal.sig) → Buf (Elt Ideal) ℓ) (g : Dev Cert.ModVecRefIdeal.nD → PrngReg), Pre_ModVecRefIdeal m →
    θ_run (Cert.ModVecRefIdeal.defs (F := Ideal)) (onTc (τ := Cert.ModVecRefIdeal.τ) (Cert.ModVecRefIdeal.main (F := Ideal))) ⟨m, fun _ => 0, g⟩ (fun r => (∀ c : Dev Cert.ModVecRefIdeal.nD,
      r.2.mem ((c.tc : Thread Cert.ModVecRefIdeal.nD Cert.ModVecRefIdeal.τ).loc Cert.ModVecRefIdeal.main_arg0) = m ((c.tc : Thread Cert.ModVecRefIdeal.nD Cert.ModVecRefIdeal.τ).loc Cert.ModVecRefIdeal.main_arg0)
      ∧ r.2.mem ((c.tc : Thread Cert.ModVecRefIdeal.nD Cert.ModVecRefIdeal.τ).loc Cert.ModVecRefIdeal.main_arg1) = m ((c.tc : Thread Cert.ModVecRefIdeal.nD Cert.ModVecRefIdeal.τ).loc Cert.ModVecRefIdeal.main_arg1)
      ∧ r.2.mem ((c.tc : Thread Cert.ModVecRefIdeal.nD Cert.ModVecRefIdeal.τ).loc Cert.ModVecRefIdeal.main_arg2) = m ((c.tc : Thread Cert.ModVecRefIdeal.nD Cert.ModVecRefIdeal.τ).loc Cert.ModVecRefIdeal.main_arg2)
      ∧ r.2.mem ((c.tc : Thread Cert.ModVecRefIdeal.nD Cert.ModVecRefIdeal.τ).loc Cert.ModVecRefIdeal.main_arg3) = m ((c.tc : Thread Cert.ModVecRefIdeal.nD Cert.ModVecRefIdeal.τ).loc Cert.ModVecRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v1)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v1) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v0) = v0 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1))

def preserves_GmlpIn_GmlpInIdeal : Prop :=
  IdealRules.named_const.Statement Cert.GmlpInIdeal.κ "gelu_c3" .f32 0xBDD2D3E8#32 (((-80338380498831 / 1125899906842624) * (Real.log 2)⁻¹ : ℝ) : EReal)
  ∧ IdealRules.named_const.Statement Cert.GmlpInIdeal.κ "gelu_c1" .f32 0xC0135761#32 (((-6693141 / 4194304) * (Real.log 2)⁻¹ : ℝ) : EReal)

def algebraic_GmlpInIdeal_GmlpInRefIdeal [hGmlpInIdeal : Cert.GmlpInIdeal.Facts] [hGmlpInRefIdeal : Cert.GmlpInRefIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)) →
    ∃ (v0 : (c : Dev Cert.GmlpInIdeal.nD) → Buf (Elt Ideal) ((c.tc : Thread Cert.GmlpInIdeal.nD Cert.GmlpInIdeal.τ).loc Cert.GmlpInIdeal.main_v1)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v1) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v14) = v0 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v1) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def preserves_GmlpOut_GmlpOutIdeal : Prop :=
  True

def algebraic_GmlpOutIdeal_GmlpOutRefIdeal [hGmlpOutIdeal : Cert.GmlpOutIdeal.Facts] [hGmlpOutRefIdeal : Cert.GmlpOutRefIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.GmlpOutRefIdeal.nD Cert.GmlpOutRefIdeal.τ Cert.GmlpOutRefIdeal.sig) → Buf (Elt Ideal) ℓ) (g' : Dev Cert.GmlpOutRefIdeal.nD → PrngReg), Pre_GmlpOutIdeal m →
    (∀ c : Dev Cert.GmlpOutIdeal.nD,
      m' ((c.tc : Thread Cert.GmlpOutRefIdeal.nD Cert.GmlpOutRefIdeal.τ).loc Cert.GmlpOutRefIdeal.main_arg0) = m ((c.tc : Thread Cert.GmlpOutIdeal.nD Cert.GmlpOutIdeal.τ).loc Cert.GmlpOutIdeal.main_arg0)
      ∧ m' ((c.tc : Thread Cert.GmlpOutRefIdeal.nD Cert.GmlpOutRefIdeal.τ).loc Cert.GmlpOutRefIdeal.main_arg1) = m ((c.tc : Thread Cert.GmlpOutIdeal.nD Cert.GmlpOutIdeal.τ).loc Cert.GmlpOutIdeal.main_arg1)) →
    ∃ (v0 : (c : Dev Cert.GmlpOutIdeal.nD) → Buf (Elt Ideal) ((c.tc : Thread Cert.GmlpOutIdeal.nD Cert.GmlpOutIdeal.τ).loc Cert.GmlpOutIdeal.main_v1)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v1) = v0 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1))
      ∧ θ_run (Cert.GmlpOutRefIdeal.defs (F := Ideal)) (onTc (τ := Cert.GmlpOutRefIdeal.τ) (Cert.GmlpOutRefIdeal.main (F := Ideal))) ⟨m', fun _ => 0, g'⟩ (fun r => ∀ c : Dev Cert.GmlpOutRefIdeal.nD,
          r.2.mem ((c.tc : Thread Cert.GmlpOutRefIdeal.nD Cert.GmlpOutRefIdeal.τ).loc Cert.GmlpOutRefIdeal.main_v0) = v0 c
          ∧ r.2.mem ((c.tc : Thread Cert.GmlpOutRefIdeal.nD Cert.GmlpOutRefIdeal.τ).loc Cert.GmlpOutRefIdeal.main_arg0) = m' ((c.tc : Thread Cert.GmlpOutRefIdeal.nD Cert.GmlpOutRefIdeal.τ).loc Cert.GmlpOutRefIdeal.main_arg0)
          ∧ r.2.mem ((c.tc : Thread Cert.GmlpOutRefIdeal.nD Cert.GmlpOutRefIdeal.τ).loc Cert.GmlpOutRefIdeal.main_arg1) = m' ((c.tc : Thread Cert.GmlpOutRefIdeal.nD Cert.GmlpOutRefIdeal.τ).loc Cert.GmlpOutRefIdeal.main_arg1))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)) →
    ∃ (v0 : (c : Dev Cert.PeerQIdeal.nD) → Buf (Elt Ideal) ((c.tc : Thread Cert.PeerQIdeal.nD Cert.PeerQIdeal.τ).loc Cert.PeerQIdeal.main_v1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v1) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v1) = v0 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1))

def preserves_CtxKv_CtxKvIdeal : Prop :=
  True

def algebraic_CtxKvIdeal_CtxKvRefIdeal [hCtxKvIdeal : Cert.CtxKvIdeal.Facts] [hCtxKvRefIdeal : Cert.CtxKvRefIdeal.Facts] : Prop :=
  ∀ (m : (ℓ : Loc Cert.CtxKvIdeal.nD Cert.CtxKvIdeal.τ Cert.CtxKvIdeal.sig) → Buf (Elt Ideal) ℓ) (g : Dev Cert.CtxKvIdeal.nD → PrngReg)
    (m' : (ℓ : Loc Cert.CtxKvRefIdeal.nD Cert.CtxKvRefIdeal.τ Cert.CtxKvRefIdeal.sig) → Buf (Elt Ideal) ℓ) (g' : Dev Cert.CtxKvRefIdeal.nD → PrngReg), Pre_CtxKvIdeal m →
    (∀ c : Dev Cert.CtxKvIdeal.nD,
      m' ((c.tc : Thread Cert.CtxKvRefIdeal.nD Cert.CtxKvRefIdeal.τ).loc Cert.CtxKvRefIdeal.main_arg0) = m ((c.tc : Thread Cert.CtxKvIdeal.nD Cert.CtxKvIdeal.τ).loc Cert.CtxKvIdeal.main_arg0)
      ∧ m' ((c.tc : Thread Cert.CtxKvRefIdeal.nD Cert.CtxKvRefIdeal.τ).loc Cert.CtxKvRefIdeal.main_arg1) = m ((c.tc : Thread Cert.CtxKvIdeal.nD Cert.CtxKvIdeal.τ).loc Cert.CtxKvIdeal.main_arg1)) →
    ∃ (v0 : (c : Dev Cert.CtxKvIdeal.nD) → Buf (Elt Ideal) ((c.tc : Thread Cert.CtxKvIdeal.nD Cert.CtxKvIdeal.τ).loc Cert.CtxKvIdeal.main_v1)),
      θ_run (Cert.CtxKvIdeal.defs (F := Ideal)) (onTc (τ := Cert.CtxKvIdeal.τ) (Cert.CtxKvIdeal.main (F := Ideal))) ⟨m, fun _ => 0, g⟩ (fun r => ∀ c : Dev Cert.CtxKvIdeal.nD,
          r.2.mem ((c.tc : Thread Cert.CtxKvIdeal.nD Cert.CtxKvIdeal.τ).loc Cert.CtxKvIdeal.main_v1) = v0 c
          ∧ r.2.mem ((c.tc : Thread Cert.CtxKvIdeal.nD Cert.CtxKvIdeal.τ).loc Cert.CtxKvIdeal.main_arg0) = m ((c.tc : Thread Cert.CtxKvIdeal.nD Cert.CtxKvIdeal.τ).loc Cert.CtxKvIdeal.main_arg0)
          ∧ r.2.mem ((c.tc : Thread Cert.CtxKvIdeal.nD Cert.CtxKvIdeal.τ).loc Cert.CtxKvIdeal.main_arg1) = m ((c.tc : Thread Cert.CtxKvIdeal.nD Cert.CtxKvIdeal.τ).loc Cert.CtxKvIdeal.main_arg1))
      ∧ θ_run (Cert.CtxKvRefIdeal.defs (F := Ideal)) (onTc (τ := Cert.CtxKvRefIdeal.τ) (Cert.CtxKvRefIdeal.main (F := Ideal))) ⟨m', fun _ => 0, g'⟩ (fun r => ∀ c : Dev Cert.CtxKvRefIdeal.nD,
          r.2.mem ((c.tc : Thread Cert.CtxKvRefIdeal.nD Cert.CtxKvRefIdeal.τ).loc Cert.CtxKvRefIdeal.main_v1) = v0 c
          ∧ r.2.mem ((c.tc : Thread Cert.CtxKvRefIdeal.nD Cert.CtxKvRefIdeal.τ).loc Cert.CtxKvRefIdeal.main_arg0) = m' ((c.tc : Thread Cert.CtxKvRefIdeal.nD Cert.CtxKvRefIdeal.τ).loc Cert.CtxKvRefIdeal.main_arg0)
          ∧ r.2.mem ((c.tc : Thread Cert.CtxKvRefIdeal.nD Cert.CtxKvRefIdeal.τ).loc Cert.CtxKvRefIdeal.main_arg1) = m' ((c.tc : Thread Cert.CtxKvRefIdeal.nD Cert.CtxKvRefIdeal.τ).loc Cert.CtxKvRefIdeal.main_arg1))

def preserves_ResLn_ResLnIdeal : Prop :=
  True

def algebraic_ResLnIdeal_ResLnRefIdeal [hResLnIdeal : Cert.ResLnIdeal.Facts] [hResLnRefIdeal : Cert.ResLnRefIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.ResLnRefIdeal.nD Cert.ResLnRefIdeal.τ Cert.ResLnRefIdeal.sig) → Buf (Elt Ideal) ℓ) (g' : Dev Cert.ResLnRefIdeal.nD → PrngReg), Pre_ResLnIdeal m →
    (∀ c : Dev Cert.ResLnIdeal.nD,
      m' ((c.tc : Thread Cert.ResLnRefIdeal.nD Cert.ResLnRefIdeal.τ).loc Cert.ResLnRefIdeal.main_arg0) = m ((c.tc : Thread Cert.ResLnIdeal.nD Cert.ResLnIdeal.τ).loc Cert.ResLnIdeal.main_arg0)
      ∧ m' ((c.tc : Thread Cert.ResLnRefIdeal.nD Cert.ResLnRefIdeal.τ).loc Cert.ResLnRefIdeal.main_arg1) = m ((c.tc : Thread Cert.ResLnIdeal.nD Cert.ResLnIdeal.τ).loc Cert.ResLnIdeal.main_arg1)
      ∧ m' ((c.tc : Thread Cert.ResLnRefIdeal.nD Cert.ResLnRefIdeal.τ).loc Cert.ResLnRefIdeal.main_arg2) = m ((c.tc : Thread Cert.ResLnIdeal.nD Cert.ResLnIdeal.τ).loc Cert.ResLnIdeal.main_arg2)
      ∧ m' ((c.tc : Thread Cert.ResLnRefIdeal.nD Cert.ResLnRefIdeal.τ).loc Cert.ResLnRefIdeal.main_arg3) = m ((c.tc : Thread Cert.ResLnIdeal.nD Cert.ResLnIdeal.τ).loc Cert.ResLnIdeal.main_arg3)
      ∧ m' ((c.tc : Thread Cert.ResLnRefIdeal.nD Cert.ResLnRefIdeal.τ).loc Cert.ResLnRefIdeal.main_arg4) = m ((c.tc : Thread Cert.ResLnIdeal.nD Cert.ResLnIdeal.τ).loc Cert.ResLnIdeal.main_arg4)
      ∧ m' ((c.tc : Thread Cert.ResLnRefIdeal.nD Cert.ResLnRefIdeal.τ).loc Cert.ResLnRefIdeal.main_arg5) = m ((c.tc : Thread Cert.ResLnIdeal.nD Cert.ResLnIdeal.τ).loc Cert.ResLnIdeal.main_arg5)
      ∧ m' ((c.tc : Thread Cert.ResLnRefIdeal.nD Cert.ResLnRefIdeal.τ).loc Cert.ResLnRefIdeal.main_arg6) = m ((c.tc : Thread Cert.ResLnIdeal.nD Cert.ResLnIdeal.τ).loc Cert.ResLnIdeal.main_arg6)) →
    ∃ (v0 : (c : Dev Cert.ResLnIdeal.nD) → Buf (Elt Ideal) ((c.tc : Thread Cert.ResLnIdeal.nD Cert.ResLnIdeal.τ).loc Cert.ResLnIdeal.main_v2)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v2) = v0 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
          ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4)
          ∧ r.2.mem ((c.tc : Thread Cert.ResLnIdeal.nD Cert.ResLnIdeal.τ).loc Cert.ResLnIdeal.main_arg5) = m ((c.tc : Thread Cert.ResLnIdeal.nD Cert.ResLnIdeal.τ).loc Cert.ResLnIdeal.main_arg5)
          ∧ r.2.mem ((c.tc : Thread Cert.ResLnIdeal.nD Cert.ResLnIdeal.τ).loc Cert.ResLnIdeal.main_arg6) = m ((c.tc : Thread Cert.ResLnIdeal.nD Cert.ResLnIdeal.τ).loc Cert.ResLnIdeal.main_arg6))
      ∧ θ_run (Cert.ResLnRefIdeal.defs (F := Ideal)) (onTc (τ := Cert.ResLnRefIdeal.τ) (Cert.ResLnRefIdeal.main (F := Ideal))) ⟨m', fun _ => 0, g'⟩ (fun r => ∀ c : Dev Cert.ResLnRefIdeal.nD,
          r.2.mem ((c.tc : Thread Cert.ResLnRefIdeal.nD Cert.ResLnRefIdeal.τ).loc Cert.ResLnRefIdeal.main_v28) = v0 c
          ∧ r.2.mem ((c.tc : Thread Cert.ResLnRefIdeal.nD Cert.ResLnRefIdeal.τ).loc Cert.ResLnRefIdeal.main_arg0) = m' ((c.tc : Thread Cert.ResLnRefIdeal.nD Cert.ResLnRefIdeal.τ).loc Cert.ResLnRefIdeal.main_arg0)
          ∧ r.2.mem ((c.tc : Thread Cert.ResLnRefIdeal.nD Cert.ResLnRefIdeal.τ).loc Cert.ResLnRefIdeal.main_arg1) = m' ((c.tc : Thread Cert.ResLnRefIdeal.nD Cert.ResLnRefIdeal.τ).loc Cert.ResLnRefIdeal.main_arg1)
          ∧ r.2.mem ((c.tc : Thread Cert.ResLnRefIdeal.nD Cert.ResLnRefIdeal.τ).loc Cert.ResLnRefIdeal.main_arg2) = m' ((c.tc : Thread Cert.ResLnRefIdeal.nD Cert.ResLnRefIdeal.τ).loc Cert.ResLnRefIdeal.main_arg2)
          ∧ r.2.mem ((c.tc : Thread Cert.ResLnRefIdeal.nD Cert.ResLnRefIdeal.τ).loc Cert.ResLnRefIdeal.main_arg3) = m' ((c.tc : Thread Cert.ResLnRefIdeal.nD Cert.ResLnRefIdeal.τ).loc Cert.ResLnRefIdeal.main_arg3)
          ∧ r.2.mem ((c.tc : Thread Cert.ResLnRefIdeal.nD Cert.ResLnRefIdeal.τ).loc Cert.ResLnRefIdeal.main_arg4) = m' ((c.tc : Thread Cert.ResLnRefIdeal.nD Cert.ResLnRefIdeal.τ).loc Cert.ResLnRefIdeal.main_arg4)
          ∧ r.2.mem ((c.tc : Thread Cert.ResLnRefIdeal.nD Cert.ResLnRefIdeal.τ).loc Cert.ResLnRefIdeal.main_arg5) = m' ((c.tc : Thread Cert.ResLnRefIdeal.nD Cert.ResLnRefIdeal.τ).loc Cert.ResLnRefIdeal.main_arg5)
          ∧ r.2.mem ((c.tc : Thread Cert.ResLnRefIdeal.nD Cert.ResLnRefIdeal.τ).loc Cert.ResLnRefIdeal.main_arg6) = m' ((c.tc : Thread Cert.ResLnRefIdeal.nD Cert.ResLnRefIdeal.τ).loc Cert.ResLnRefIdeal.main_arg6))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v5) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v35) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v6) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_QkPrep_QkPrepIdeal : Prop :=
  True

def algebraic_QkPrepIdeal_QkPrepRefIdeal [hQkPrepIdeal : Cert.QkPrepIdeal.Facts] [hQkPrepRefIdeal : Cert.QkPrepRefIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkPrepRefIdeal.nD Cert.QkPrepRefIdeal.τ Cert.QkPrepRefIdeal.sig) → Buf (Elt Ideal) ℓ) (g' : Dev Cert.QkPrepRefIdeal.nD → PrngReg), Pre_QkPrepIdeal m →
    (∀ c : Dev Cert.QkPrepIdeal.nD,
      m' ((c.tc : Thread Cert.QkPrepRefIdeal.nD Cert.QkPrepRefIdeal.τ).loc Cert.QkPrepRefIdeal.main_arg0) = m ((c.tc : Thread Cert.QkPrepIdeal.nD Cert.QkPrepIdeal.τ).loc Cert.QkPrepIdeal.main_arg0)
      ∧ m' ((c.tc : Thread Cert.QkPrepRefIdeal.nD Cert.QkPrepRefIdeal.τ).loc Cert.QkPrepRefIdeal.main_arg1) = m ((c.tc : Thread Cert.QkPrepIdeal.nD Cert.QkPrepIdeal.τ).loc Cert.QkPrepIdeal.main_arg1)
      ∧ m' ((c.tc : Thread Cert.QkPrepRefIdeal.nD Cert.QkPrepRefIdeal.τ).loc Cert.QkPrepRefIdeal.main_arg2) = m ((c.tc : Thread Cert.QkPrepIdeal.nD Cert.QkPrepIdeal.τ).loc Cert.QkPrepIdeal.main_arg2)) →
    ∃ (v0 : (c : Dev Cert.QkPrepIdeal.nD) → Buf (Elt Ideal) ((c.tc : Thread Cert.QkPrepIdeal.nD Cert.QkPrepIdeal.τ).loc Cert.QkPrepIdeal.main_v35)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v35) = v0 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2))
      ∧ θ_run (Cert.QkPrepRefIdeal.defs (F := Ideal)) (onTc (τ := Cert.QkPrepRefIdeal.τ) (Cert.QkPrepRefIdeal.main (F := Ideal))) ⟨m', fun _ => 0, g'⟩ (fun r => ∀ c : Dev Cert.QkPrepRefIdeal.nD,
          r.2.mem ((c.tc : Thread Cert.QkPrepRefIdeal.nD Cert.QkPrepRefIdeal.τ).loc Cert.QkPrepRefIdeal.main_v150) = v0 c
          ∧ r.2.mem ((c.tc : Thread Cert.QkPrepRefIdeal.nD Cert.QkPrepRefIdeal.τ).loc Cert.QkPrepRefIdeal.main_arg0) = m' ((c.tc : Thread Cert.QkPrepRefIdeal.nD Cert.QkPrepRefIdeal.τ).loc Cert.QkPrepRefIdeal.main_arg0)
          ∧ r.2.mem ((c.tc : Thread Cert.QkPrepRefIdeal.nD Cert.QkPrepRefIdeal.τ).loc Cert.QkPrepRefIdeal.main_arg1) = m' ((c.tc : Thread Cert.QkPrepRefIdeal.nD Cert.QkPrepRefIdeal.τ).loc Cert.QkPrepRefIdeal.main_arg1)
          ∧ r.2.mem ((c.tc : Thread Cert.QkPrepRefIdeal.nD Cert.QkPrepRefIdeal.τ).loc Cert.QkPrepRefIdeal.main_arg2) = m' ((c.tc : Thread Cert.QkPrepRefIdeal.nD Cert.QkPrepRefIdeal.τ).loc Cert.QkPrepRefIdeal.main_arg2))

def preserves_KcPrep_KcPrepIdeal : Prop :=
  True

def algebraic_KcPrepIdeal_KcPrepRefIdeal [hKcPrepIdeal : Cert.KcPrepIdeal.Facts] [hKcPrepRefIdeal : Cert.KcPrepRefIdeal.Facts] : Prop :=
  ∀ (m : (ℓ : Loc Cert.KcPrepIdeal.nD Cert.KcPrepIdeal.τ Cert.KcPrepIdeal.sig) → Buf (Elt Ideal) ℓ) (g : Dev Cert.KcPrepIdeal.nD → PrngReg)
    (m' : (ℓ : Loc Cert.KcPrepRefIdeal.nD Cert.KcPrepRefIdeal.τ Cert.KcPrepRefIdeal.sig) → Buf (Elt Ideal) ℓ) (g' : Dev Cert.KcPrepRefIdeal.nD → PrngReg), Pre_KcPrepIdeal m →
    (∀ c : Dev Cert.KcPrepIdeal.nD,
      m' ((c.tc : Thread Cert.KcPrepRefIdeal.nD Cert.KcPrepRefIdeal.τ).loc Cert.KcPrepRefIdeal.main_arg0) = m ((c.tc : Thread Cert.KcPrepIdeal.nD Cert.KcPrepIdeal.τ).loc Cert.KcPrepIdeal.main_arg0)
      ∧ m' ((c.tc : Thread Cert.KcPrepRefIdeal.nD Cert.KcPrepRefIdeal.τ).loc Cert.KcPrepRefIdeal.main_arg1) = m ((c.tc : Thread Cert.KcPrepIdeal.nD Cert.KcPrepIdeal.τ).loc Cert.KcPrepIdeal.main_arg1)) →
    ∃ (v0 : (c : Dev Cert.KcPrepIdeal.nD) → Buf (Elt Ideal) ((c.tc : Thread Cert.KcPrepIdeal.nD Cert.KcPrepIdeal.τ).loc Cert.KcPrepIdeal.main_v4)),
      θ_run (Cert.KcPrepIdeal.defs (F := Ideal)) (onTc (τ := Cert.KcPrepIdeal.τ) (Cert.KcPrepIdeal.main (F := Ideal))) ⟨m, fun _ => 0, g⟩ (fun r => ∀ c : Dev Cert.KcPrepIdeal.nD,
          r.2.mem ((c.tc : Thread Cert.KcPrepIdeal.nD Cert.KcPrepIdeal.τ).loc Cert.KcPrepIdeal.main_v4) = v0 c
          ∧ r.2.mem ((c.tc : Thread Cert.KcPrepIdeal.nD Cert.KcPrepIdeal.τ).loc Cert.KcPrepIdeal.main_arg0) = m ((c.tc : Thread Cert.KcPrepIdeal.nD Cert.KcPrepIdeal.τ).loc Cert.KcPrepIdeal.main_arg0)
          ∧ r.2.mem ((c.tc : Thread Cert.KcPrepIdeal.nD Cert.KcPrepIdeal.τ).loc Cert.KcPrepIdeal.main_arg1) = m ((c.tc : Thread Cert.KcPrepIdeal.nD Cert.KcPrepIdeal.τ).loc Cert.KcPrepIdeal.main_arg1))
      ∧ θ_run (Cert.KcPrepRefIdeal.defs (F := Ideal)) (onTc (τ := Cert.KcPrepRefIdeal.τ) (Cert.KcPrepRefIdeal.main (F := Ideal))) ⟨m', fun _ => 0, g'⟩ (fun r => ∀ c : Dev Cert.KcPrepRefIdeal.nD,
          r.2.mem ((c.tc : Thread Cert.KcPrepRefIdeal.nD Cert.KcPrepRefIdeal.τ).loc Cert.KcPrepRefIdeal.main_v17) = v0 c
          ∧ r.2.mem ((c.tc : Thread Cert.KcPrepRefIdeal.nD Cert.KcPrepRefIdeal.τ).loc Cert.KcPrepRefIdeal.main_arg0) = m' ((c.tc : Thread Cert.KcPrepRefIdeal.nD Cert.KcPrepRefIdeal.τ).loc Cert.KcPrepRefIdeal.main_arg0)
          ∧ r.2.mem ((c.tc : Thread Cert.KcPrepRefIdeal.nD Cert.KcPrepRefIdeal.τ).loc Cert.KcPrepRefIdeal.main_arg1) = m' ((c.tc : Thread Cert.KcPrepRefIdeal.nD Cert.KcPrepRefIdeal.τ).loc Cert.KcPrepRefIdeal.main_arg1))

def preserves_ResLnMod_ResLnModIdeal : Prop :=
  True

def algebraic_ResLnModIdeal_ResLnModRefIdeal [hResLnModIdeal : Cert.ResLnModIdeal.Facts] [hResLnModRefIdeal : Cert.ResLnModRefIdeal.Facts] : Prop :=
  ∀ (m : (ℓ : Loc Cert.ResLnModIdeal.nD Cert.ResLnModIdeal.τ Cert.ResLnModIdeal.sig) → Buf (Elt Ideal) ℓ) (g : Dev Cert.ResLnModIdeal.nD → PrngReg)
    (m' : (ℓ : Loc Cert.ResLnModRefIdeal.nD Cert.ResLnModRefIdeal.τ Cert.ResLnModRefIdeal.sig) → Buf (Elt Ideal) ℓ) (g' : Dev Cert.ResLnModRefIdeal.nD → PrngReg), Pre_ResLnModIdeal m →
    (∀ c : Dev Cert.ResLnModIdeal.nD,
      m' ((c.tc : Thread Cert.ResLnModRefIdeal.nD Cert.ResLnModRefIdeal.τ).loc Cert.ResLnModRefIdeal.main_arg0) = m ((c.tc : Thread Cert.ResLnModIdeal.nD Cert.ResLnModIdeal.τ).loc Cert.ResLnModIdeal.main_arg0)
      ∧ m' ((c.tc : Thread Cert.ResLnModRefIdeal.nD Cert.ResLnModRefIdeal.τ).loc Cert.ResLnModRefIdeal.main_arg1) = m ((c.tc : Thread Cert.ResLnModIdeal.nD Cert.ResLnModIdeal.τ).loc Cert.ResLnModIdeal.main_arg1)
      ∧ m' ((c.tc : Thread Cert.ResLnModRefIdeal.nD Cert.ResLnModRefIdeal.τ).loc Cert.ResLnModRefIdeal.main_arg2) = m ((c.tc : Thread Cert.ResLnModIdeal.nD Cert.ResLnModIdeal.τ).loc Cert.ResLnModIdeal.main_arg2)
      ∧ m' ((c.tc : Thread Cert.ResLnModRefIdeal.nD Cert.ResLnModRefIdeal.τ).loc Cert.ResLnModRefIdeal.main_arg3) = m ((c.tc : Thread Cert.ResLnModIdeal.nD Cert.ResLnModIdeal.τ).loc Cert.ResLnModIdeal.main_arg3)
      ∧ m' ((c.tc : Thread Cert.ResLnModRefIdeal.nD Cert.ResLnModRefIdeal.τ).loc Cert.ResLnModRefIdeal.main_arg4) = m ((c.tc : Thread Cert.ResLnModIdeal.nD Cert.ResLnModIdeal.τ).loc Cert.ResLnModIdeal.main_arg4)
      ∧ m' ((c.tc : Thread Cert.ResLnModRefIdeal.nD Cert.ResLnModRefIdeal.τ).loc Cert.ResLnModRefIdeal.main_arg5) = m ((c.tc : Thread Cert.ResLnModIdeal.nD Cert.ResLnModIdeal.τ).loc Cert.ResLnModIdeal.main_arg5)
      ∧ m' ((c.tc : Thread Cert.ResLnModRefIdeal.nD Cert.ResLnModRefIdeal.τ).loc Cert.ResLnModRefIdeal.main_arg6) = m ((c.tc : Thread Cert.ResLnModIdeal.nD Cert.ResLnModIdeal.τ).loc Cert.ResLnModIdeal.main_arg6)) →
    ∃ (v0 : (c : Dev Cert.ResLnModIdeal.nD) → Buf (Elt Ideal) ((c.tc : Thread Cert.ResLnModIdeal.nD Cert.ResLnModIdeal.τ).loc Cert.ResLnModIdeal.main_v2_0)) (v1 : (c : Dev Cert.ResLnModIdeal.nD) → Buf (Elt Ideal) ((c.tc : Thread Cert.ResLnModIdeal.nD Cert.ResLnModIdeal.τ).loc Cert.ResLnModIdeal.main_v2_1)) (v2 : (c : Dev Cert.ResLnModIdeal.nD) → Buf (Elt Ideal) ((c.tc : Thread Cert.ResLnModIdeal.nD Cert.ResLnModIdeal.τ).loc Cert.ResLnModIdeal.main_v2_2)),
      θ_run (Cert.ResLnModIdeal.defs (F := Ideal)) (onTc (τ := Cert.ResLnModIdeal.τ) (Cert.ResLnModIdeal.main (F := Ideal))) ⟨m, fun _ => 0, g⟩ (fun r => ∀ c : Dev Cert.ResLnModIdeal.nD,
          r.2.mem ((c.tc : Thread Cert.ResLnModIdeal.nD Cert.ResLnModIdeal.τ).loc Cert.ResLnModIdeal.main_v2_0) = v0 c
          ∧ r.2.mem ((c.tc : Thread Cert.ResLnModIdeal.nD Cert.ResLnModIdeal.τ).loc Cert.ResLnModIdeal.main_v2_1) = v1 c
          ∧ r.2.mem ((c.tc : Thread Cert.ResLnModIdeal.nD Cert.ResLnModIdeal.τ).loc Cert.ResLnModIdeal.main_v2_2) = v2 c
          ∧ r.2.mem ((c.tc : Thread Cert.ResLnModIdeal.nD Cert.ResLnModIdeal.τ).loc Cert.ResLnModIdeal.main_arg0) = m ((c.tc : Thread Cert.ResLnModIdeal.nD Cert.ResLnModIdeal.τ).loc Cert.ResLnModIdeal.main_arg0)
          ∧ r.2.mem ((c.tc : Thread Cert.ResLnModIdeal.nD Cert.ResLnModIdeal.τ).loc Cert.ResLnModIdeal.main_arg1) = m ((c.tc : Thread Cert.ResLnModIdeal.nD Cert.ResLnModIdeal.τ).loc Cert.ResLnModIdeal.main_arg1)
          ∧ r.2.mem ((c.tc : Thread Cert.ResLnModIdeal.nD Cert.ResLnModIdeal.τ).loc Cert.ResLnModIdeal.main_arg2) = m ((c.tc : Thread Cert.ResLnModIdeal.nD Cert.ResLnModIdeal.τ).loc Cert.ResLnModIdeal.main_arg2)
          ∧ r.2.mem ((c.tc : Thread Cert.ResLnModIdeal.nD Cert.ResLnModIdeal.τ).loc Cert.ResLnModIdeal.main_arg3) = m ((c.tc : Thread Cert.ResLnModIdeal.nD Cert.ResLnModIdeal.τ).loc Cert.ResLnModIdeal.main_arg3)
          ∧ r.2.mem ((c.tc : Thread Cert.ResLnModIdeal.nD Cert.ResLnModIdeal.τ).loc Cert.ResLnModIdeal.main_arg4) = m ((c.tc : Thread Cert.ResLnModIdeal.nD Cert.ResLnModIdeal.τ).loc Cert.ResLnModIdeal.main_arg4)
          ∧ r.2.mem ((c.tc : Thread Cert.ResLnModIdeal.nD Cert.ResLnModIdeal.τ).loc Cert.ResLnModIdeal.main_arg5) = m ((c.tc : Thread Cert.ResLnModIdeal.nD Cert.ResLnModIdeal.τ).loc Cert.ResLnModIdeal.main_arg5)
          ∧ r.2.mem ((c.tc : Thread Cert.ResLnModIdeal.nD Cert.ResLnModIdeal.τ).loc Cert.ResLnModIdeal.main_arg6) = m ((c.tc : Thread Cert.ResLnModIdeal.nD Cert.ResLnModIdeal.τ).loc Cert.ResLnModIdeal.main_arg6))
      ∧ θ_run (Cert.ResLnModRefIdeal.defs (F := Ideal)) (onTc (τ := Cert.ResLnModRefIdeal.τ) (Cert.ResLnModRefIdeal.main (F := Ideal))) ⟨m', fun _ => 0, g'⟩ (fun r => ∀ c : Dev Cert.ResLnModRefIdeal.nD,
          r.2.mem ((c.tc : Thread Cert.ResLnModRefIdeal.nD Cert.ResLnModRefIdeal.τ).loc Cert.ResLnModRefIdeal.main_v28) = v0 c
          ∧ r.2.mem ((c.tc : Thread Cert.ResLnModRefIdeal.nD Cert.ResLnModRefIdeal.τ).loc Cert.ResLnModRefIdeal.main_v35) = v1 c
          ∧ r.2.mem ((c.tc : Thread Cert.ResLnModRefIdeal.nD Cert.ResLnModRefIdeal.τ).loc Cert.ResLnModRefIdeal.main_v36) = v2 c
          ∧ r.2.mem ((c.tc : Thread Cert.ResLnModRefIdeal.nD Cert.ResLnModRefIdeal.τ).loc Cert.ResLnModRefIdeal.main_arg0) = m' ((c.tc : Thread Cert.ResLnModRefIdeal.nD Cert.ResLnModRefIdeal.τ).loc Cert.ResLnModRefIdeal.main_arg0)
          ∧ r.2.mem ((c.tc : Thread Cert.ResLnModRefIdeal.nD Cert.ResLnModRefIdeal.τ).loc Cert.ResLnModRefIdeal.main_arg1) = m' ((c.tc : Thread Cert.ResLnModRefIdeal.nD Cert.ResLnModRefIdeal.τ).loc Cert.ResLnModRefIdeal.main_arg1)
          ∧ r.2.mem ((c.tc : Thread Cert.ResLnModRefIdeal.nD Cert.ResLnModRefIdeal.τ).loc Cert.ResLnModRefIdeal.main_arg2) = m' ((c.tc : Thread Cert.ResLnModRefIdeal.nD Cert.ResLnModRefIdeal.τ).loc Cert.ResLnModRefIdeal.main_arg2)
          ∧ r.2.mem ((c.tc : Thread Cert.ResLnModRefIdeal.nD Cert.ResLnModRefIdeal.τ).loc Cert.ResLnModRefIdeal.main_arg3) = m' ((c.tc : Thread Cert.ResLnModRefIdeal.nD Cert.ResLnModRefIdeal.τ).loc Cert.ResLnModRefIdeal.main_arg3)
          ∧ r.2.mem ((c.tc : Thread Cert.ResLnModRefIdeal.nD Cert.ResLnModRefIdeal.τ).loc Cert.ResLnModRefIdeal.main_arg4) = m' ((c.tc : Thread Cert.ResLnModRefIdeal.nD Cert.ResLnModRefIdeal.τ).loc Cert.ResLnModRefIdeal.main_arg4)
          ∧ r.2.mem ((c.tc : Thread Cert.ResLnModRefIdeal.nD Cert.ResLnModRefIdeal.τ).loc Cert.ResLnModRefIdeal.main_arg5) = m' ((c.tc : Thread Cert.ResLnModRefIdeal.nD Cert.ResLnModRefIdeal.τ).loc Cert.ResLnModRefIdeal.main_arg5)
          ∧ r.2.mem ((c.tc : Thread Cert.ResLnModRefIdeal.nD Cert.ResLnModRefIdeal.τ).loc Cert.ResLnModRefIdeal.main_arg6) = m' ((c.tc : Thread Cert.ResLnModRefIdeal.nD Cert.ResLnModRefIdeal.τ).loc Cert.ResLnModRefIdeal.main_arg6))

def preserves_ModVec_ModVecIdeal : Prop :=
  True

def algebraic_ModVecIdeal_ModVecRefIdeal [hModVecIdeal : Cert.ModVecIdeal.Facts] [hModVecRefIdeal : Cert.ModVecRefIdeal.Facts] : Prop :=
  ∀ (m : (ℓ : Loc Cert.ModVecIdeal.nD Cert.ModVecIdeal.τ Cert.ModVecIdeal.sig) → Buf (Elt Ideal) ℓ) (g : Dev Cert.ModVecIdeal.nD → PrngReg)
    (m' : (ℓ : Loc Cert.ModVecRefIdeal.nD Cert.ModVecRefIdeal.τ Cert.ModVecRefIdeal.sig) → Buf (Elt Ideal) ℓ) (g' : Dev Cert.ModVecRefIdeal.nD → PrngReg), Pre_ModVecIdeal m →
    (∀ c : Dev Cert.ModVecIdeal.nD,
      m' ((c.tc : Thread Cert.ModVecRefIdeal.nD Cert.ModVecRefIdeal.τ).loc Cert.ModVecRefIdeal.main_arg0) = m ((c.tc : Thread Cert.ModVecIdeal.nD Cert.ModVecIdeal.τ).loc Cert.ModVecIdeal.main_arg0)
      ∧ m' ((c.tc : Thread Cert.ModVecRefIdeal.nD Cert.ModVecRefIdeal.τ).loc Cert.ModVecRefIdeal.main_arg1) = m ((c.tc : Thread Cert.ModVecIdeal.nD Cert.ModVecIdeal.τ).loc Cert.ModVecIdeal.main_arg1)
      ∧ m' ((c.tc : Thread Cert.ModVecRefIdeal.nD Cert.ModVecRefIdeal.τ).loc Cert.ModVecRefIdeal.main_arg2) = m ((c.tc : Thread Cert.ModVecIdeal.nD Cert.ModVecIdeal.τ).loc Cert.ModVecIdeal.main_arg2)
      ∧ m' ((c.tc : Thread Cert.ModVecRefIdeal.nD Cert.ModVecRefIdeal.τ).loc Cert.ModVecRefIdeal.main_arg3) = m ((c.tc : Thread Cert.ModVecIdeal.nD Cert.ModVecIdeal.τ).loc Cert.ModVecIdeal.main_arg3)) →
    ∃ (v0 : (c : Dev Cert.ModVecIdeal.nD) → Buf (Elt Ideal) ((c.tc : Thread Cert.ModVecIdeal.nD Cert.ModVecIdeal.τ).loc Cert.ModVecIdeal.main_v5)),
      θ_run (Cert.ModVecIdeal.defs (F := Ideal)) (onTc (τ := Cert.ModVecIdeal.τ) (Cert.ModVecIdeal.main (F := Ideal))) ⟨m, fun _ => 0, g⟩ (fun r => ∀ c : Dev Cert.ModVecIdeal.nD,
          r.2.mem ((c.tc : Thread Cert.ModVecIdeal.nD Cert.ModVecIdeal.τ).loc Cert.ModVecIdeal.main_v5) = v0 c
          ∧ r.2.mem ((c.tc : Thread Cert.ModVecIdeal.nD Cert.ModVecIdeal.τ).loc Cert.ModVecIdeal.main_arg0) = m ((c.tc : Thread Cert.ModVecIdeal.nD Cert.ModVecIdeal.τ).loc Cert.ModVecIdeal.main_arg0)
          ∧ r.2.mem ((c.tc : Thread Cert.ModVecIdeal.nD Cert.ModVecIdeal.τ).loc Cert.ModVecIdeal.main_arg1) = m ((c.tc : Thread Cert.ModVecIdeal.nD Cert.ModVecIdeal.τ).loc Cert.ModVecIdeal.main_arg1)
          ∧ r.2.mem ((c.tc : Thread Cert.ModVecIdeal.nD Cert.ModVecIdeal.τ).loc Cert.ModVecIdeal.main_arg2) = m ((c.tc : Thread Cert.ModVecIdeal.nD Cert.ModVecIdeal.τ).loc Cert.ModVecIdeal.main_arg2)
          ∧ r.2.mem ((c.tc : Thread Cert.ModVecIdeal.nD Cert.ModVecIdeal.τ).loc Cert.ModVecIdeal.main_arg3) = m ((c.tc : Thread Cert.ModVecIdeal.nD Cert.ModVecIdeal.τ).loc Cert.ModVecIdeal.main_arg3))
      ∧ θ_run (Cert.ModVecRefIdeal.defs (F := Ideal)) (onTc (τ := Cert.ModVecRefIdeal.τ) (Cert.ModVecRefIdeal.main (F := Ideal))) ⟨m', fun _ => 0, g'⟩ (fun r => ∀ c : Dev Cert.ModVecRefIdeal.nD,
          r.2.mem ((c.tc : Thread Cert.ModVecRefIdeal.nD Cert.ModVecRefIdeal.τ).loc Cert.ModVecRefIdeal.main_v9) = v0 c
          ∧ r.2.mem ((c.tc : Thread Cert.ModVecRefIdeal.nD Cert.ModVecRefIdeal.τ).loc Cert.ModVecRefIdeal.main_arg0) = m' ((c.tc : Thread Cert.ModVecRefIdeal.nD Cert.ModVecRefIdeal.τ).loc Cert.ModVecRefIdeal.main_arg0)
          ∧ r.2.mem ((c.tc : Thread Cert.ModVecRefIdeal.nD Cert.ModVecRefIdeal.τ).loc Cert.ModVecRefIdeal.main_arg1) = m' ((c.tc : Thread Cert.ModVecRefIdeal.nD Cert.ModVecRefIdeal.τ).loc Cert.ModVecRefIdeal.main_arg1)
          ∧ r.2.mem ((c.tc : Thread Cert.ModVecRefIdeal.nD Cert.ModVecRefIdeal.τ).loc Cert.ModVecRefIdeal.main_arg2) = m' ((c.tc : Thread Cert.ModVecRefIdeal.nD Cert.ModVecRefIdeal.τ).loc Cert.ModVecRefIdeal.main_arg2)
          ∧ r.2.mem ((c.tc : Thread Cert.ModVecRefIdeal.nD Cert.ModVecRefIdeal.τ).loc Cert.ModVecRefIdeal.main_arg3) = m' ((c.tc : Thread Cert.ModVecRefIdeal.nD Cert.ModVecRefIdeal.τ).loc Cert.ModVecRefIdeal.main_arg3))

def Claim : Prop :=
  ∃ (hKernel : Cert.Kernel.Facts) (hKernelIdeal : Cert.KernelIdeal.Facts) (hReferenceIdeal : Cert.ReferenceIdeal.Facts) (hAttnIn : Cert.AttnIn.Facts) (hAttnInIdeal : Cert.AttnInIdeal.Facts) (hAttnInRefIdeal : Cert.AttnInRefIdeal.Facts) (hGmlpIn : Cert.GmlpIn.Facts) (hGmlpInIdeal : Cert.GmlpInIdeal.Facts) (hGmlpInRefIdeal : Cert.GmlpInRefIdeal.Facts) (hAttnOut : Cert.AttnOut.Facts) (hAttnOutIdeal : Cert.AttnOutIdeal.Facts) (hAttnOutRefIdeal : Cert.AttnOutRefIdeal.Facts) (hGmlpOut : Cert.GmlpOut.Facts) (hGmlpOutIdeal : Cert.GmlpOutIdeal.Facts) (hGmlpOutRefIdeal : Cert.GmlpOutRefIdeal.Facts) (hPeerQ : Cert.PeerQ.Facts) (hPeerQIdeal : Cert.PeerQIdeal.Facts) (hPeerQRefIdeal : Cert.PeerQRefIdeal.Facts) (hCtxKv : Cert.CtxKv.Facts) (hCtxKvIdeal : Cert.CtxKvIdeal.Facts) (hCtxKvRefIdeal : Cert.CtxKvRefIdeal.Facts) (hResLn : Cert.ResLn.Facts) (hResLnIdeal : Cert.ResLnIdeal.Facts) (hResLnRefIdeal : Cert.ResLnRefIdeal.Facts) (hSgu : Cert.Sgu.Facts) (hSguIdeal : Cert.SguIdeal.Facts) (hSguRefIdeal : Cert.SguRefIdeal.Facts) (hModulate : Cert.Modulate.Facts) (hModulateIdeal : Cert.ModulateIdeal.Facts) (hModulateRefIdeal : Cert.ModulateRefIdeal.Facts) (hQkPrep : Cert.QkPrep.Facts) (hQkPrepIdeal : Cert.QkPrepIdeal.Facts) (hQkPrepRefIdeal : Cert.QkPrepRefIdeal.Facts) (hKcPrep : Cert.KcPrep.Facts) (hKcPrepIdeal : Cert.KcPrepIdeal.Facts) (hKcPrepRefIdeal : Cert.KcPrepRefIdeal.Facts) (hResLnMod : Cert.ResLnMod.Facts) (hResLnModIdeal : Cert.ResLnModIdeal.Facts) (hResLnModRefIdeal : Cert.ResLnModRefIdeal.Facts) (hModVec : Cert.ModVec.Facts) (hModVecIdeal : Cert.ModVecIdeal.Facts) (hModVecRefIdeal : Cert.ModVecRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_GmlpIn (hGmlpIn := hGmlpIn)
    ∧ quiescent_GmlpInIdeal (hGmlpInIdeal := hGmlpInIdeal)
    ∧ quiescent_GmlpInRefIdeal (hGmlpInRefIdeal := hGmlpInRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_GmlpOut (hGmlpOut := hGmlpOut)
    ∧ quiescent_GmlpOutIdeal (hGmlpOutIdeal := hGmlpOutIdeal)
    ∧ quiescent_GmlpOutRefIdeal (hGmlpOutRefIdeal := hGmlpOutRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_CtxKv (hCtxKv := hCtxKv)
    ∧ quiescent_CtxKvIdeal (hCtxKvIdeal := hCtxKvIdeal)
    ∧ quiescent_CtxKvRefIdeal (hCtxKvRefIdeal := hCtxKvRefIdeal)
    ∧ quiescent_ResLn (hResLn := hResLn)
    ∧ quiescent_ResLnIdeal (hResLnIdeal := hResLnIdeal)
    ∧ quiescent_ResLnRefIdeal (hResLnRefIdeal := hResLnRefIdeal)
    ∧ quiescent_Sgu (hSgu := hSgu)
    ∧ quiescent_SguIdeal (hSguIdeal := hSguIdeal)
    ∧ quiescent_SguRefIdeal (hSguRefIdeal := hSguRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_QkPrep (hQkPrep := hQkPrep)
    ∧ quiescent_QkPrepIdeal (hQkPrepIdeal := hQkPrepIdeal)
    ∧ quiescent_QkPrepRefIdeal (hQkPrepRefIdeal := hQkPrepRefIdeal)
    ∧ quiescent_KcPrep (hKcPrep := hKcPrep)
    ∧ quiescent_KcPrepIdeal (hKcPrepIdeal := hKcPrepIdeal)
    ∧ quiescent_KcPrepRefIdeal (hKcPrepRefIdeal := hKcPrepRefIdeal)
    ∧ quiescent_ResLnMod (hResLnMod := hResLnMod)
    ∧ quiescent_ResLnModIdeal (hResLnModIdeal := hResLnModIdeal)
    ∧ quiescent_ResLnModRefIdeal (hResLnModRefIdeal := hResLnModRefIdeal)
    ∧ quiescent_ModVec (hModVec := hModVec)
    ∧ quiescent_ModVecIdeal (hModVecIdeal := hModVecIdeal)
    ∧ quiescent_ModVecRefIdeal (hModVecRefIdeal := hModVecRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnIn_AttnInIdeal
    ∧ algebraic_AttnInIdeal_AttnInRefIdeal (hAttnInIdeal := hAttnInIdeal) (hAttnInRefIdeal := hAttnInRefIdeal)
    ∧ preserves_GmlpIn_GmlpInIdeal
    ∧ algebraic_GmlpInIdeal_GmlpInRefIdeal (hGmlpInIdeal := hGmlpInIdeal) (hGmlpInRefIdeal := hGmlpInRefIdeal)
    ∧ preserves_AttnOut_AttnOutIdeal
    ∧ algebraic_AttnOutIdeal_AttnOutRefIdeal (hAttnOutIdeal := hAttnOutIdeal) (hAttnOutRefIdeal := hAttnOutRefIdeal)
    ∧ preserves_GmlpOut_GmlpOutIdeal
    ∧ algebraic_GmlpOutIdeal_GmlpOutRefIdeal (hGmlpOutIdeal := hGmlpOutIdeal) (hGmlpOutRefIdeal := hGmlpOutRefIdeal)
    ∧ preserves_PeerQ_PeerQIdeal
    ∧ algebraic_PeerQIdeal_PeerQRefIdeal (hPeerQIdeal := hPeerQIdeal) (hPeerQRefIdeal := hPeerQRefIdeal)
    ∧ preserves_CtxKv_CtxKvIdeal
    ∧ algebraic_CtxKvIdeal_CtxKvRefIdeal (hCtxKvIdeal := hCtxKvIdeal) (hCtxKvRefIdeal := hCtxKvRefIdeal)
    ∧ preserves_ResLn_ResLnIdeal
    ∧ algebraic_ResLnIdeal_ResLnRefIdeal (hResLnIdeal := hResLnIdeal) (hResLnRefIdeal := hResLnRefIdeal)
    ∧ preserves_Sgu_SguIdeal
    ∧ algebraic_SguIdeal_SguRefIdeal (hSguIdeal := hSguIdeal) (hSguRefIdeal := hSguRefIdeal)
    ∧ preserves_Modulate_ModulateIdeal
    ∧ algebraic_ModulateIdeal_ModulateRefIdeal (hModulateIdeal := hModulateIdeal) (hModulateRefIdeal := hModulateRefIdeal)
    ∧ preserves_QkPrep_QkPrepIdeal
    ∧ algebraic_QkPrepIdeal_QkPrepRefIdeal (hQkPrepIdeal := hQkPrepIdeal) (hQkPrepRefIdeal := hQkPrepRefIdeal)
    ∧ preserves_KcPrep_KcPrepIdeal
    ∧ algebraic_KcPrepIdeal_KcPrepRefIdeal (hKcPrepIdeal := hKcPrepIdeal) (hKcPrepRefIdeal := hKcPrepRefIdeal)
    ∧ preserves_ResLnMod_ResLnModIdeal
    ∧ algebraic_ResLnModIdeal_ResLnModRefIdeal (hResLnModIdeal := hResLnModIdeal) (hResLnModRefIdeal := hResLnModRefIdeal)
    ∧ preserves_ModVec_ModVecIdeal
    ∧ algebraic_ModVecIdeal_ModVecRefIdeal (hModVecIdeal := hModVecIdeal) (hModVecRefIdeal := hModVecRefIdeal)
-- ==== Pre_finite.lean ====
abbrev S8192x2048 : Shape := ⟨2, ![8192, 2048]⟩
abbrev S8192x512 : Shape := ⟨2, ![8192, 512]⟩
abbrev S256x512 : Shape := ⟨2, ![256, 512]⟩
abbrev S_ : Shape := ⟨0, ![]⟩

class Facts : Prop where
  bcast_S_S8192x2048 : S_.BroadcastsInDim S8192x2048 (![] : Fin 0 → Fin S8192x2048.rank)
  bcast_S_S8192x512 : S_.BroadcastsInDim S8192x512 (![] : Fin 0 → Fin S8192x512.rank)
  bcast_S_S256x512 : S_.BroadcastsInDim S256x512 (![] : Fin 0 → Fin S256x512.rank)

variable [Facts]

def fn {F : FTy → Type} [FloatOps F] (main_arg0 : FVec F S8192x2048 .f32) (main_arg1 : FVec F S8192x512 .f32) (main_arg2 : FVec F S8192x512 .f32) (main_arg3 : FVec F S256x512 .f32) (main_arg4 : FVec F S256x512 .f32) : IVec S8192x2048 1 × IVec S8192x512 1 × IVec S256x512 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S256x512 .f32 := Host.absf main_arg3
  let main_cst_1 : FVec F S_ .f32 := constant S_ .f32 0x7F800000#32
  let main_v7 : FVec F S256x512 .f32 := broadcastInDim S256x512 ![] bcast_S_S256x512 main_cst_1
  let main_v8 : IVec S256x512 1 := cmpf .olt main_v6 main_v7
  (main_v2, main_v5, main_v8)
-- ==== Kernel.lean ====
abbrev S8192x2048 : Shape := ⟨2, ![8192, 2048]⟩
abbrev S8192x512 : Shape := ⟨2, ![8192, 512]⟩
abbrev S256x512 : Shape := ⟨2, ![256, 512]⟩
abbrev S_ : Shape := ⟨0, ![]⟩
abbrev S8192x2560 : Shape := ⟨2, ![8192, 2560]⟩
abbrev S8448x512 : Shape := ⟨2, ![8448, 512]⟩
abbrev S1024x512 : Shape := ⟨2, ![1024, 512]⟩
abbrev S768x128 : Shape := ⟨2, ![768, 128]⟩
abbrev S4x1x1024 : Shape := ⟨3, ![4, 1, 1024]⟩
abbrev S4x128x1024 : Shape := ⟨3, ![4, 128, 1024]⟩
abbrev S4x768x1024 : Shape := ⟨3, ![4, 768, 1024]⟩
abbrev S1024x128 : Shape := ⟨2, ![1024, 128]⟩
abbrev S768x1024 : Shape := ⟨2, ![768, 1024]⟩
abbrev S1x768x1024 : Shape := ⟨3, ![1, 768, 1024]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩

abbrev nBuf : Space → Nat
  | .hbm => 22
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S256x512, .f32⟩
  | .hbm, ⟨4, _⟩ => ⟨S256x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2560, .f32⟩
  | .hbm, ⟨15, _⟩ => ⟨S8192x2560, .bf16⟩
  | .hbm, ⟨16, _⟩ => ⟨S256x512, .bf16⟩
  | .hbm, ⟨17, _⟩ => ⟨S8192x512, .bf16⟩
  | .hbm, ⟨18, _⟩ => ⟨S8448x512, .bf16⟩
  | .hbm, ⟨19, _⟩ => ⟨S8448x512, .f32⟩
  | .hbm, ⟨20, _⟩ => ⟨S8448x512, .bf16⟩
  | .hbm, ⟨21, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S768x128, .bf16⟩
  | .local _ .vmem, ⟨3, _⟩ => ⟨S768x128, .bf16⟩
  | .local _ .vmem, ⟨4, _⟩ => ⟨S768x128, .bf16⟩
  | .local _ .vmem, ⟨5, _⟩ => ⟨S768x128, .bf16⟩
  | .local _ .vmem, ⟨6, _⟩ => ⟨S1024x512, .bf16⟩
  | .local _ .vmem, ⟨7, _⟩ => ⟨S1024x512, .bf16⟩
  | .local _ .vmem, ⟨8, _⟩ => ⟨S4x1x1024, .f32⟩
  | .local _ .vmem, ⟨9, _⟩ => ⟨S4x1x1024, .f32⟩
  | .local _ .vmem, ⟨10, _⟩ => ⟨S4x128x1024, .f32⟩
  | .local _ .vmem, ⟨11, _⟩ => ⟨S4x768x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 11], ![false, false, false]⟩

def k0_cond2 (i : grid0.Coords) : BitVec 1 :=
  let arg2 : BitVec 32 := BitVec.ofNat 32 (i 2).val
  let c10_i32 : BitVec 32 := 10#32
  let v167 : BitVec 1 := Scalar.cmpi .eq arg2 c10_i32
  let v168 : BitVec 32 := Scalar.extui v167
  let c0_i32_117 : BitVec 32 := 0#32
  let v169 : BitVec 1 := Scalar.cmpi .ne v168 c0_i32_117
  v169

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8192x2048 : Shape := ⟨2, ![8192, 2048]⟩
abbrev S8192x512 : Shape := ⟨2, ![8192, 512]⟩
abbrev S256x512 : Shape := ⟨2, ![256, 512]⟩
abbrev S8192x4x4x128 : Shape := ⟨4, ![8192, 4, 4, 128]⟩
abbrev S8192x4x128 : Shape := ⟨3, ![8192, 4, 128]⟩
abbrev S256x4x128 : Shape := ⟨3, ![256, 4, 128]⟩
abbrev S8448x4x128 : Shape := ⟨3, ![8448, 4, 128]⟩
abbrev S_ : Shape := ⟨0, ![]⟩
abbrev S4x8448x8192x4 : Shape := ⟨4, ![4, 8448, 8192, 4]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S256x512, .f32⟩
  | .hbm, ⟨4, _⟩ => ⟨S256x512, .f32⟩
  | .hbm, ⟨5, _⟩ => ⟨S8192x4x4x128, .f32⟩
  | .hbm, ⟨6, _⟩ => ⟨S8192x4x128, .f32⟩
  | .hbm, ⟨7, _⟩ => ⟨S8192x4x128, .f32⟩
  | .hbm, ⟨8, _⟩ => ⟨S256x4x128, .f32⟩
  | .hbm, ⟨9, _⟩ => ⟨S256x4x128, .f32⟩
  | .hbm, ⟨10, _⟩ => ⟨S8448x4x128, .f32⟩
  | .hbm, ⟨11, _⟩ => ⟨S8448x4x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8448x8192x4, .f32⟩
  | .hbm, ⟨17, _⟩ => ⟨S4x4x8192x8448, .f32⟩
  | .hbm, ⟨18, _⟩ => ⟨S4x4x8192x8448, .f32⟩
  | .hbm, ⟨19, _⟩ => ⟨S4x4x8192x8448, .f32⟩
  | .hbm, ⟨20, _⟩ => ⟨S_, .f32⟩
  | .hbm, ⟨21, _⟩ => ⟨S4x4x8192, .f32⟩
  | .hbm, ⟨22, _⟩ => ⟨S_, .f32⟩
  | .hbm, ⟨23, _⟩ => ⟨S4x4x8192, .f32⟩
  | .hbm, ⟨24, _⟩ => ⟨S4x4x8192, .f32⟩
  | .hbm, ⟨25, _⟩ => ⟨S4x4x8192x1, .f32⟩
  | .hbm, ⟨26, _⟩ => ⟨S4x4x8192x8448, .f32⟩
  | .hbm, ⟨27, _⟩ => ⟨S4x4x8192x8448, .f32⟩
  | .hbm, ⟨28, _⟩ => ⟨S4x4x8192x8448, .f32⟩
  | .hbm, ⟨29, _⟩ => ⟨S_, .f32⟩
  | .hbm, ⟨30, _⟩ => ⟨S4x4x8192, .f32⟩
  | .hbm, ⟨31, _⟩ => ⟨S4x4x8192x1, .f32⟩
  | .hbm, ⟨32, _⟩ => ⟨S4x4x8192x8448, .f32⟩
  | .hbm, ⟨33, _⟩ => ⟨S4x4x8192x8448, .f32⟩
  | .hbm, ⟨34, _⟩ => ⟨S4x128x4x8192, .f32⟩
  | .hbm, ⟨35, _⟩ => ⟨S8192x4x4x128, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== AttnIn.lean ====
abbrev S8192x4096 : Shape := ⟨2, ![8192, 4096]⟩
abbrev S4096x7168 : Shape := ⟨2, ![4096, 7168]⟩
abbrev S8192x7168 : Shape := ⟨2, ![8192, 7168]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x7168, .f32⟩
  | .hbm, ⟨2, _⟩ => ⟨S8192x4096, .bf16⟩
  | .hbm, ⟨3, _⟩ => ⟨S8192x7168, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnInRefIdeal.lean ====
abbrev S8192x4096 : Shape := ⟨2, ![8192, 4096]⟩
abbrev S4096x7168 : Shape := ⟨2, ![4096, 7168]⟩
abbrev S8192x7168 : Shape := ⟨2, ![8192, 7168]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x7168, .f32⟩
  | .hbm, ⟨2, _⟩ => ⟨S8192x7168, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GmlpIn.lean ====
abbrev S8192x4096 : Shape := ⟨2, ![8192, 4096]⟩
abbrev S4096x8192 : Shape := ⟨2, ![4096, 8192]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S8192x4096, .bf16⟩
  | .hbm, ⟨3, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GmlpInIdeal.lean ====
variable {F : FTy → Type} [FloatOps F] [Named F]
def κ : String → Option EReal := fun
  | "gelu_c1" => some (((-6693141 / 4194304) * (Real.log 2)⁻¹ : ℝ) : EReal)
  | "gelu_c3" => some (((-80338380498831 / 1125899906842624) * (Real.log 2)⁻¹ : ℝ) : EReal)
  | _ => none
-- ==== GmlpInRefIdeal.lean ====
abbrev S8192x4096 : Shape := ⟨2, ![8192, 4096]⟩
abbrev S4096x8192 : Shape := ⟨2, ![4096, 8192]⟩
abbrev S8192x8192 : Shape := ⟨2, ![8192, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AttnOut.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S4096x512 : Shape := ⟨2, ![4096, 512]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4096x4096, .f32⟩
  | .hbm, ⟨3, _⟩ => ⟨S8192x2048, .bf16⟩
  | .hbm, ⟨4, _⟩ => ⟨S8192x2048, .bf16⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnOutRefIdeal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4096x4096, .f32⟩
  | .hbm, ⟨3, _⟩ => ⟨S8192x4096, .f32⟩
  | .hbm, ⟨4, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GmlpOut.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GmlpOutRefIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PeerQ.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x4096, .bf16⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | .hbm, ⟨3, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CtxKv.lean ====
abbrev S256x4096 : Shape := ⟨2, ![256, 4096]⟩
abbrev S4096x7168 : Shape := ⟨2, ![4096, 7168]⟩
abbrev S256x1024 : Shape := ⟨2, ![256, 1024]⟩
abbrev S4096x512 : Shape := ⟨2, ![4096, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x7168, .f32⟩
  | .hbm, ⟨2, _⟩ => ⟨S256x4096, .bf16⟩
  | .hbm, ⟨3, _⟩ => ⟨S256x1024, .f32⟩
  | .local _ .vmem, ⟨0, _⟩ => ⟨S256x4096, .bf16⟩
  | .local _ .vmem, ⟨1, _⟩ => ⟨S4096x512, .f32⟩
  | .local _ .vmem, ⟨2, _⟩ => ⟨S4096x512, .f32⟩
  | .local _ .vmem, ⟨3, _⟩ => ⟨S256x512, .f32⟩
  | .local _ .vmem, ⟨4, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxKvRefIdeal.lean ====
abbrev S256x4096 : Shape := ⟨2, ![256, 4096]⟩
abbrev S4096x7168 : Shape := ⟨2, ![4096, 7168]⟩
abbrev S4096x1024 : Shape := ⟨2, ![4096, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x7168, .f32⟩
  | .hbm, ⟨2, _⟩ => ⟨S4096x1024, .f32⟩
  | .hbm, ⟨3, _⟩ => ⟨S256x1024, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ResLn.lean ====
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResLnRefIdeal.lean ====
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Sgu.lean ====
abbrev S8192x8192 : Shape := ⟨2, ![8192, 8192]⟩
abbrev S4096 : Shape := ⟨1, ![4096]⟩
abbrev S16x128x128 : Shape := ⟨3, ![16, 128, 128]⟩
abbrev S16x128 : Shape := ⟨2, ![16, 128]⟩
abbrev S16x128x1 : Shape := ⟨3, ![16, 128, 1]⟩
abbrev S16x128x256 : Shape := ⟨3, ![16, 128, 256]⟩
abbrev S1x4096 : Shape := ⟨2, ![1, 4096]⟩
abbrev S8192x4096 : Shape := ⟨2, ![8192, 4096]⟩
abbrev S256x4096 : Shape := ⟨2, ![256, 4096]⟩
abbrev S128x4096 : Shape := ⟨2, ![128, 4096]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 11
  | .vmem => 10
  | .smem => 0
  | _ => 0

abbrev bufTy : (tb : Table) → Fin (tcTables nBuf tb) → BufTy
  | .hbm, ⟨0, _⟩ => ⟨S8192x8192, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S8192x8192, .bf16⟩
  | .hbm, ⟨6, _⟩ => ⟨S16x128x1, .f32⟩
  | .hbm, ⟨7, _⟩ => ⟨S16x128x256, .f32⟩
  | .hbm, ⟨8, _⟩ => ⟨S1x4096, .f32⟩
  | .hbm, ⟨9, _⟩ => ⟨S1x4096, .f32⟩
  | .hbm, ⟨10, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S16x128x128, .f32⟩
  | .local _ .vmem, ⟨7, _⟩ => ⟨S16x128x256, .f32⟩
  | .local _ .vmem, ⟨8, _⟩ => ⟨S256x4096, .bf16⟩
  | .local _ .vmem, ⟨9, _⟩ => ⟨S256x4096, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S8192x8192 : Shape := ⟨2, ![8192, 8192]⟩
abbrev S4096 : Shape := ⟨1, ![4096]⟩
abbrev S16x128x128 : Shape := ⟨3, ![16, 128, 128]⟩
abbrev S16x128 : Shape := ⟨2, ![16, 128]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S64x128x16x256 : Shape := ⟨4, ![64, 128, 16, 256]⟩
abbrev S16x64x256x128 : Shape := ⟨4, ![16, 64, 256, 128]⟩
abbrev S128x16 : Shape := ⟨2, ![128, 16]⟩
abbrev S1x128x16x1 : Shape := ⟨4, ![1, 128, 16, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S64x128x16x256, .f32⟩
  | .hbm, ⟨37, _⟩ => ⟨S16x64x256x128, .f32⟩
  | .hbm, ⟨38, _⟩ => ⟨S64x128x16x256, .f32⟩
  | .hbm, ⟨39, _⟩ => ⟨S128x16, .f32⟩
  | .hbm, ⟨40, _⟩ => ⟨S1x128x16x1, .f32⟩
  | .hbm, ⟨41, _⟩ => ⟨S64x128x16x256, .f32⟩
  | .hbm, ⟨42, _⟩ => ⟨S64x128x16x256, .f32⟩
  | .hbm, ⟨43, _⟩ => ⟨S8192x4096, .f32⟩
  | .hbm, ⟨44, _⟩ => ⟨S8192x4096, .f32⟩
  | .hbm, ⟨45, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Modulate.lean ====
abbrev S8192x4096 : Shape := ⟨2, ![8192, 4096]⟩
abbrev S1x4096 : Shape := ⟨2, ![1, 4096]⟩
abbrev S256x4096 : Shape := ⟨2, ![256, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S8192x4096 : Shape := ⟨2, ![8192, 4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== QkPrep.lean ====
abbrev S8192x7168 : Shape := ⟨2, ![8192, 7168]⟩
abbrev S128 : Shape := ⟨1, ![128]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16x128 : Shape := ⟨2, ![16, 128]⟩
abbrev S4x128 : Shape := ⟨2, ![4, 128]⟩
abbrev S20x128 : Shape := ⟨2, ![20, 128]⟩
abbrev S20x1x128 : Shape := ⟨3, ![20, 1, 128]⟩
abbrev S8192x2560 : Shape := ⟨2, ![8192, 2560]⟩
abbrev S256x2560 : Shape := ⟨2, ![256, 2560]⟩
abbrev S256x128 : Shape := ⟨2, ![256, 128]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩

abbrev nBuf : Space → Nat
  | .hbm => 79
  | .vmem => 9
  | .smem => 0
  | _ => 0

abbrev bufTy : (tb : Table) → Fin (tcTables nBuf tb) → BufTy
  | .hbm, ⟨0, _⟩ => ⟨S8192x7168, .f32⟩
  | .hbm, ⟨1, _⟩ => ⟨S128, .f32⟩
  | .hbm, ⟨2, _⟩ => ⟨S128, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .i32⟩
  | .hbm, ⟨12, _⟩ => ⟨S_, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S_, .i1⟩
  | .hbm, ⟨52, _⟩ => ⟨S8192, .i1⟩
  | .hbm, ⟨53, _⟩ => ⟨S8192, .i1⟩
  | .hbm, ⟨54, _⟩ => ⟨S8192, .i1⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192, .f32⟩
  | .hbm, ⟨59, _⟩ => ⟨S8192x1, .f32⟩
  | .hbm, ⟨60, _⟩ => ⟨S1x32, .f32⟩
  | .hbm, ⟨61, _⟩ => ⟨S8192x32, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x128, .f32⟩
  | .hbm, ⟨67, _⟩ => ⟨S8192x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x32, .f32⟩
  | .hbm, ⟨73, _⟩ => ⟨S8192x128, .f32⟩
  | .hbm, ⟨74, _⟩ => ⟨S16x128, .f32⟩
  | .hbm, ⟨75, _⟩ => ⟨S4x128, .f32⟩
  | .hbm, ⟨76, _⟩ => ⟨S20x128, .f32⟩
  | .hbm, ⟨77, _⟩ => ⟨S20x1x128, .f32⟩
  | .hbm, ⟨78, _⟩ => ⟨S8192x2560, .bf16⟩
  | .local _ .vmem, ⟨0, _⟩ => ⟨S256x2560, .f32⟩
  | .local _ .vmem, ⟨1, _⟩ => ⟨S256x2560, .f32⟩
  | .local _ .vmem, ⟨2, _⟩ => ⟨S20x1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x2560, .bf16⟩
  | .local _ .vmem, ⟨8, _⟩ => ⟨S256x2560, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkPrepRefIdeal.lean ====
abbrev S8192x7168 : Shape := ⟨2, ![8192, 7168]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x2048 : Shape := ⟨2, ![8192, 2048]⟩
abbrev S8192x16x128 : Shape := ⟨3, ![8192, 16, 128]⟩
abbrev S8192x512 : Shape := ⟨2, ![8192, 512]⟩
abbrev S8192x4x128 : Shape := ⟨3, ![8192, 4, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S32 : Shape := ⟨1, ![32]⟩
abbrev S8192x16x64 : Shape := ⟨3, ![8192, 16, 64]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S8192x4 : Shape := ⟨2, ![8192, 4]⟩
abbrev S8192x4x1 : Shape := ⟨3, ![8192, 4, 1]⟩
abbrev S8192x4x64 : Shape := ⟨3, ![8192, 4, 64]⟩
abbrev S8192x4x32 : Shape := ⟨3, ![8192, 4, 32]⟩
abbrev S8192x2560 : Shape := ⟨2, ![8192, 2560]⟩

abbrev nBuf : Space → Nat
  | .hbm => 164
  | .vmem => 0
  | .smem => 0
  | _ => 0

abbrev hbmTy0_0 (i : Nat) : BufTy := match i % 128 with
  | 0 => ⟨S8192x7168, .f32⟩
  | 1 => ⟨S128, .f32⟩
  | 2 => ⟨S128, .f32⟩
  | 3 => ⟨S128, .i32⟩
  | 4 => ⟨S128x64, .i32⟩
  | 5 => ⟨S8192, .i32⟩
  | 6 => ⟨S64, .i32⟩
  | 7 => ⟨S1x64, .i32⟩
  | 8 => ⟨S128x64, .i32⟩
  | 9 => ⟨S8192, .i32⟩
  | 10 => ⟨S8192x2048, .f32⟩
  | 11 => ⟨S8192x16x128, .f32⟩
  | 12 => ⟨S8192x512, .f32⟩
  | 13 => ⟨S8192x4x128, .f32⟩
  | 14 => ⟨S8192x16x128, .f32⟩
  | 15 => ⟨S_, .f32⟩
  | 16 => ⟨S8192x16, .f32⟩
  | 17 => ⟨S8192x16x1, .f32⟩
  | 18 => ⟨S_, .f32⟩
  | 19 => ⟨S8192x16x1, .f32⟩
  | 20 => ⟨S8192x16x1, .f32⟩
  | 21 => ⟨S_, .f32⟩
  | 22 => ⟨S8192x16x1, .f32⟩
  | 23 => ⟨S8192x16x1, .f32⟩
  | 24 => ⟨S8192x16x1, .f32⟩
  | 25 => ⟨S8192x16x128, .f32⟩
  | 26 => ⟨S8192x16x128, .f32⟩
  | 27 => ⟨S1x1x128, .f32⟩
  | 28 => ⟨S8192x16x128, .f32⟩
  | 29 => ⟨S8192x16x128, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S8192x16x64, .f32⟩
  | 39 => ⟨S8192x16x64, .f32⟩
  | 40 => ⟨S8192, .f32⟩
  | 41 => ⟨S8192x1, .f32⟩
  | 42 => ⟨S1x32, .f32⟩
  | 43 => ⟨S8192x32, .f32⟩
  | 44 => ⟨S8192x32, .f32⟩
  | 45 => ⟨S8192x32, .f32⟩
  | 46 => ⟨S8192x32, .f32⟩
  | 47 => ⟨S8192x1x32, .f32⟩
  | 48 => ⟨S8192x32, .f32⟩
  | 49 => ⟨S8192x1x32, .f32⟩
  | 50 => ⟨S8192x16x32, .f32⟩
  | 51 => ⟨S8192x16x32, .f32⟩
  | 52 => ⟨S8192x16x32, .f32⟩
  | 53 => ⟨S8192x16x32, .f32⟩
  | 54 => ⟨S8192x16x32, .f32⟩
  | 55 => ⟨S8192x16x32, .f32⟩
  | 56 => ⟨S8192x16x32, .f32⟩
  | 57 => ⟨S8192x16x32, .f32⟩
  | 58 => ⟨S8192x16x32, .f32⟩
  | 59 => ⟨S8192x16x32, .f32⟩
  | 60 => ⟨S8192x16x32, .f32⟩
  | 61 => ⟨S8192x16x32, .f32⟩
  | 62 => ⟨S8192x16x64, .f32⟩
  | 63 => ⟨S8192, .f32⟩
  | 64 => ⟨S8192x1, .f32⟩
  | 65 => ⟨S1x32, .f32⟩
  | 66 => ⟨S8192x32, .f32⟩
  | 67 => ⟨S8192x32, .f32⟩
  | 68 => ⟨S8192x32, .f32⟩
  | 69 => ⟨S8192x32, .f32⟩
  | 70 => ⟨S8192x1x32, .f32⟩
  | 71 => ⟨S8192x32, .f32⟩
  | 72 => ⟨S8192x1x32, .f32⟩
  | 73 => ⟨S8192x16x32, .f32⟩
  | 74 => ⟨S8192x16x32, .f32⟩
  | 75 => ⟨S8192x16x32, .f32⟩
  | 76 => ⟨S8192x16x32, .f32⟩
  | 77 => ⟨S8192x16x32, .f32⟩
  | 78 => ⟨S8192x16x32, .f32⟩
  | 79 => ⟨S8192x16x32, .f32⟩
  | 80 => ⟨S8192x16x32, .f32⟩
  | 81 => ⟨S8192x16x32, .f32⟩
  | 82 => ⟨S8192x16x32, .f32⟩
  | 83 => ⟨S8192x16x32, .f32⟩
  | 84 => ⟨S8192x16x32, .f32⟩
  | 85 => ⟨S8192x16x64, .f32⟩
  | 86 => ⟨S8192x16x128, .f32⟩
  | 87 => ⟨S8192x4x128, .f32⟩
  | 88 => ⟨S_, .f32⟩
  | 89 => ⟨S8192x4, .f32⟩
  | 90 => ⟨S8192x4x1, .f32⟩
  | 91 => ⟨S_, .f32⟩
  | 92 => ⟨S8192x4x1, .f32⟩
  | 93 => ⟨S8192x4x1, .f32⟩
  | 94 => ⟨S_, .f32⟩
  | 95 => ⟨S8192x4x1, .f32⟩
  | 96 => ⟨S8192x4x1, .f32⟩
  | 97 => ⟨S8192x4x1, .f32⟩
  | 98 => ⟨S8192x4x128, .f32⟩
  | 99 => ⟨S8192x4x128, .f32⟩
  | 100 => ⟨S1x1x128, .f32⟩
  | 101 => ⟨S8192x4x128, .f32⟩
  | 102 => ⟨S8192x4x128, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S8192x4x64, .f32⟩
  | 112 => ⟨S8192x4x64, .f32⟩
  | 113 => ⟨S8192, .f32⟩
  | 114 => ⟨S8192x1, .f32⟩
  | 115 => ⟨S1x32, .f32⟩
  | 116 => ⟨S8192x32, .f32⟩
  | 117 => ⟨S8192x32, .f32⟩
  | 118 => ⟨S8192x32, .f32⟩
  | 119 => ⟨S8192x32, .f32⟩
  | 120 => ⟨S8192x1x32, .f32⟩
  | 121 => ⟨S8192x32, .f32⟩
  | 122 => ⟨S8192x1x32, .f32⟩
  | 123 => ⟨S8192x4x32, .f32⟩
  | 124 => ⟨S8192x4x32, .f32⟩
  | 125 => ⟨S8192x4x32, .f32⟩
  | 126 => ⟨S8192x4x32, .f32⟩
  | 127 => ⟨S8192x4x32, .f32⟩
  | _ => ⟨S8192x7168, .f32⟩

abbrev hbmTy0_1 (i : Nat) : BufTy := match i % 128 with
  | 0 => ⟨S8192x4x32, .f32⟩
  | 1 => ⟨S8192x4x32, .f32⟩
  | 2 => ⟨S8192x4x32, .f32⟩
  | 3 => ⟨S8192x4x32, .f32⟩
  | 4 => ⟨S8192x4x32, .f32⟩
  | 5 => ⟨S8192x4x32, .f32⟩
  | 6 => ⟨S8192x4x32, .f32⟩
  | 7 => ⟨S8192x4x64, .f32⟩
  | 8 => ⟨S8192, .f32⟩
  | 9 => ⟨S8192x1, .f32⟩
  | 10 => ⟨S1x32, .f32⟩
  | 11 => ⟨S8192x32, .f32⟩
  | 12 => ⟨S8192x32, .f32⟩
  | 13 => ⟨S8192x32, .f32⟩
  | 14 => ⟨S8192x32, .f32⟩
  | 15 => ⟨S8192x1x32, .f32⟩
  | 16 => ⟨S8192x32, .f32⟩
  | 17 => ⟨S8192x1x32, .f32⟩
  | 18 => ⟨S8192x4x32, .f32⟩
  | 19 => ⟨S8192x4x32, .f32⟩
  | 20 => ⟨S8192x4x32, .f32⟩
  | 21 => ⟨S8192x4x32, .f32⟩
  | 22 => ⟨S8192x4x32, .f32⟩
  | 23 => ⟨S8192x4x32, .f32⟩
  | 24 => ⟨S8192x4x32, .f32⟩
  | 25 => ⟨S8192x4x32, .f32⟩
  | 26 => ⟨S8192x4x32, .f32⟩
  | 27 => ⟨S8192x4x32, .f32⟩
  | 28 => ⟨S8192x4x32, .f32⟩
  | 29 => ⟨S8192x4x32, .f32⟩
  | 30 => ⟨S8192x4x64, .f32⟩
  | 31 => ⟨S8192x4x128, .f32⟩
  | 32 => ⟨S8192x2048, .f32⟩
  | 33 => ⟨S8192x512, .f32⟩
  | 34 => ⟨S8192x2560, .f32⟩
  | 35 => ⟨S8192x2560, .bf16⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_4 : Ref sig .tc := ⟨.hbm, 88, rfl⟩
abbrev main_v80 : Ref sig .tc := ⟨.hbm, 89, rfl⟩
abbrev main_v81 : Ref sig .tc := ⟨.hbm, 90, rfl⟩
abbrev main_cst_5 : Ref sig .tc := ⟨.hbm, 91, rfl⟩
abbrev main_v82 : Ref sig .tc := ⟨.hbm, 92, rfl⟩
abbrev main_v83 : Ref sig .tc := ⟨.hbm, 93, rfl⟩
abbrev main_cst_6 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_v95 : Ref sig .tc := ⟨.hbm, 107, rfl⟩
abbrev main_cst_8 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩

abbrev nD : Nat := 1
abbrev τ : Topo := Topo.v7x

variable {F : FTy → Type} [FloatOps F]
-- ==== KcPrep.lean ====
abbrev S256x1024 : Shape := ⟨2, ![256, 1024]⟩
abbrev S128 : Shape := ⟨1, ![128]⟩
abbrev S4x128 : Shape := ⟨2, ![4, 128]⟩
abbrev S4x1x128 : Shape := ⟨3, ![4, 1, 128]⟩
abbrev S_ : Shape := ⟨0, ![]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩

abbrev nBuf : Space → Nat
  | .hbm => 9
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S128, .f32⟩
  | .hbm, ⟨2, _⟩ => ⟨S4x128, .f32⟩
  | .hbm, ⟨3, _⟩ => ⟨S4x1x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S256x512, .bf16⟩
  | .local _ .vmem, ⟨0, _⟩ => ⟨S256x512, .f32⟩
  | .local _ .vmem, ⟨1, _⟩ => ⟨S4x1x128, .f32⟩
  | .local _ .vmem, ⟨2, _⟩ => ⟨S256x128, .f32⟩
  | .local _ .vmem, ⟨3, _⟩ => ⟨S256x128, .f32⟩
  | .local _ .vmem, ⟨4, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== KcPrepRefIdeal.lean ====
abbrev S256x1024 : Shape := ⟨2, ![256, 1024]⟩
abbrev S128 : Shape := ⟨1, ![128]⟩
abbrev S256x8x128 : Shape := ⟨3, ![256, 8, 128]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S256x512 : Shape := ⟨2, ![256, 512]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128, .f32⟩
  | .hbm, ⟨2, _⟩ => ⟨S256x8x128, .f32⟩
  | .hbm, ⟨3, _⟩ => ⟨S256x4x128, .f32⟩
  | .hbm, ⟨4, _⟩ => ⟨S256x4x128, .f32⟩
  | .hbm, ⟨5, _⟩ => ⟨S256x4x128, .f32⟩
  | .hbm, ⟨6, _⟩ => ⟨S_, .f32⟩
  | .hbm, ⟨7, _⟩ => ⟨S256x4, .f32⟩
  | .hbm, ⟨8, _⟩ => ⟨S256x4x1, .f32⟩
  | .hbm, ⟨9, _⟩ => ⟨S_, .f32⟩
  | .hbm, ⟨10, _⟩ => ⟨S256x4x1, .f32⟩
  | .hbm, ⟨11, _⟩ => ⟨S256x4x1, .f32⟩
  | .hbm, ⟨12, _⟩ => ⟨S_, .f32⟩
  | .hbm, ⟨13, _⟩ => ⟨S256x4x1, .f32⟩
  | .hbm, ⟨14, _⟩ => ⟨S256x4x1, .f32⟩
  | .hbm, ⟨15, _⟩ => ⟨S256x4x1, .f32⟩
  | .hbm, ⟨16, _⟩ => ⟨S256x4x128, .f32⟩
  | .hbm, ⟨17, _⟩ => ⟨S256x4x128, .f32⟩
  | .hbm, ⟨18, _⟩ => ⟨S1x1x128, .f32⟩
  | .hbm, ⟨19, _⟩ => ⟨S256x4x128, .f32⟩
  | .hbm, ⟨20, _⟩ => ⟨S256x4x128, .f32⟩
  | .hbm, ⟨21, _⟩ => ⟨S256x512, .f32⟩
  | .hbm, ⟨22, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== ResLnMod.lean ====
abbrev S8192x4096 : Shape := ⟨2, ![8192, 4096]⟩
abbrev S1x4096 : Shape := ⟨2, ![1, 4096]⟩
abbrev S4096 : Shape := ⟨1, ![4096]⟩
abbrev S4096x8192 : Shape := ⟨2, ![4096, 8192]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S8192x4096, .bf16⟩
  | .hbm, ⟨11, _⟩ => ⟨S4096x8192, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S4096x256, .bf16⟩
  | .local _ .vmem, ⟨14, _⟩ => ⟨S4096x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ResLnModRefIdeal.lean ====
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x8192 : Shape := ⟨2, ![4096, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .bf16⟩
  | .hbm, ⟨50, _⟩ => ⟨S4096x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== ModVec.lean ====
abbrev S1x4096 : Shape := ⟨2, ![1, 4096]⟩
abbrev S4096 : Shape := ⟨1, ![4096]⟩
abbrev S4096x24576 : Shape := ⟨2, ![4096, 24576]⟩
abbrev S24576 : Shape := ⟨1, ![24576]⟩
abbrev S4096x1 : Shape := ⟨2, ![4096, 1]⟩
abbrev S4096x2 : Shape := ⟨2, ![4096, 2]⟩
abbrev S1x24576 : Shape := ⟨2, ![1, 24576]⟩
abbrev S2x24576 : Shape := ⟨2, ![2, 24576]⟩
abbrev S4096x512 : Shape := ⟨2, ![4096, 512]⟩
abbrev S1x512 : Shape := ⟨2, ![1, 512]⟩
abbrev S2x512 : Shape := ⟨2, ![2, 512]⟩
abbrev S2x4096x128 : Shape := ⟨3, ![2, 4096, 128]⟩
abbrev S4096x128 : Shape := ⟨2, ![4096, 128]⟩
abbrev S1x4096x128 : Shape := ⟨3, ![1, 4096, 128]⟩
abbrev S128 : Shape := ⟨1, ![128]⟩
abbrev S1x128 : Shape := ⟨2, ![1, 128]⟩

abbrev nBuf : Space → Nat
  | .hbm => 10
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x2, .f32⟩
  | .hbm, ⟨8, _⟩ => ⟨S1x24576, .f32⟩
  | .hbm, ⟨9, _⟩ => ⟨S2x24576, .f32⟩
  | .local _ .vmem, ⟨0, _⟩ => ⟨S4096x2, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S2x512, .f32⟩
  | .local _ .vmem, ⟨6, _⟩ => ⟨S2x512, .f32⟩
  | .local _ .vmem, ⟨7, _⟩ => ⟨S2x4096x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModVecRefIdeal.lean ====
abbrev S1x4096 : Shape := ⟨2, ![1, 4096]⟩
abbrev S4096 : Shape := ⟨1, ![4096]⟩
abbrev S4096x24576 : Shape := ⟨2, ![4096, 24576]⟩
abbrev S24576 : Shape := ⟨1, ![24576]⟩
abbrev S_ : Shape := ⟨0, ![]⟩
abbrev S1x24576 : Shape := ⟨2, ![1, 24576]⟩
abbrev S2x24576 : Shape := ⟨2, ![2, 24576]⟩

abbrev nBuf : Space → Nat
  | .hbm => 30
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x24576, .f32⟩
  | .hbm, ⟨14, _⟩ => ⟨S1x24576, .f32⟩
  | .hbm, ⟨15, _⟩ => ⟨S1x24576, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x24576, .f32⟩
  | .hbm, ⟨27, _⟩ => ⟨S1x24576, .f32⟩
  | .hbm, ⟨28, _⟩ => ⟨S1x24576, .f32⟩
  | .hbm, ⟨29, _⟩ => ⟨S2x24576, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Proof.Step.lean ====
/-
  One grid point of the attention kernel, in closed form.

  A grid point holds one block of 1024 query rows of four heads and one block of 768 keys and values. Per head and query
  row it carries the largest score so far, the sum of the exponentials and their sum weighted by the values. This file
  names the three updates (`mS`, `lS`, `aS`) and proves that the kernel's stores are these updates.
-/
module
public import proofs.«01_k».proof.Proof.Gen.KernelIdeal.Value
public import Idealize.ShloMosaic.Lib.Pipeline.ValueKit
public import Idealize.ShloMosaic.Lib.Pipeline.ReadBack
public import proofs.«01_k».proof.Defs
public import Idealize.ShloMosaic.Lib.Claim
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- The score of key `kk` of the block against query row `r` of head `g`. -/
def scB (x0 : FVec Ideal S1024x512 .bf16) (x1 : FVec Ideal S768x128 .bf16) (g : Fin 4) (kk : Fin 768) (r : Fin 1024) : EReal :=
  ∑ d : Fin 128, (x1 (ix2 kk d) : EReal) * (x0 (ix2 r ⟨g.val * 128 + d.val, by omega⟩) : EReal)

/-- The largest score after the block. -/
def mS (S : Fin 4 → Fin 768 → Fin 1024 → EReal) (M : Fin 4 → Fin 1024 → EReal) (g : Fin 4) (r : Fin 1024) : EReal :=
  max (M g r) (Finset.fold max (Ideal.ofBits FTy.f32 4286578688#32) (fun kk => S g kk r) Finset.univ)

/-- The sum of exponentials after the block. -/
def lS (S : Fin 4 → Fin 768 → Fin 1024 → EReal) (M L : Fin 4 → Fin 1024 → EReal) (g : Fin 4) (r : Fin 1024) : EReal :=
  Ideal.exp2 (M g r - mS S M g r) * L g r + ∑ kk : Fin 768, Ideal.exp2 (S g kk r - mS S M g r)

/-- The weighted sum of values after the block. -/
def aS (x2 : FVec Ideal S768x128 .bf16) (S : Fin 4 → Fin 768 → Fin 1024 → EReal) (M : Fin 4 → Fin 1024 → EReal)
    (A : Fin 4 → Fin 128 → Fin 1024 → EReal) (g : Fin 4) (d : Fin 128) (r : Fin 1024) : EReal :=
  Ideal.exp2 (M g r - mS S M g r) * A g d r + ∑ kk : Fin 768, (x2 (ix2 kk d) : EReal) * Ideal.exp2 (S g kk r - mS S M g r)

/-! The four heads' stores are the same text. -/
theorem e14 : @k0_pay14 Ideal _ = k0_pay13 := rfl
theorem e15 : @k0_pay15 Ideal _ = k0_pay13 := rfl
theorem e17 (a b) : @k0_pay17 Ideal _ (k0_pay11 a) (k0_pay16 b) = k0_pay13 a b := rfl
theorem m1 (s p) : k0_pay35 (F := Ideal) (k0_pay29 s p) = k0_pay26 (k0_pay20 s p) := rfl
theorem m2 (s p) : k0_pay44 (F := Ideal) (k0_pay38 s p) = k0_pay26 (k0_pay20 s p) := rfl
theorem m3 (s p) : k0_pay2 (F := Ideal) (k0_pay47 s p) = k0_pay26 (k0_pay20 s p) := rfl
theorem l1 (s p l) : @k0_pay32 Ideal _ s p l = k0_pay23 s p l := rfl
theorem l2 (s p l) : @k0_pay41 Ideal _ s p l = k0_pay23 s p l := rfl
theorem l3 (s p l) : @k0_pay50 Ideal _ s p l = k0_pay23 s p l := rfl
theorem a1 (v s p l) : k0_pay34 (F := Ideal) (k0_pay33 v s p l) = k0_pay25 (k0_pay24 v s p l) := rfl
theorem a2 (v s p l) : k0_pay43 (F := Ideal) (k0_pay42 v s p l) = k0_pay25 (k0_pay24 v s p l) := rfl
theorem a3 (v s p l) : k0_pay1 (F := Ideal) (k0_pay51 v s p l) = k0_pay25 (k0_pay24 v s p l) := rfl
theorem o1 (a b) : @k0_pay5 Ideal _ a b = k0_pay4 a b := rfl
theorem o2 (a b) : @k0_pay6 Ideal _ a b = k0_pay4 a b := rfl
theorem o3 (a b) : @k0_pay3 Ideal _ (k0_pay7 a) b = k0_pay4 a b := rfl

/-! The stores at an index. -/
theorem pay_s (x1 : Vec Ideal S768x128 .bf16) (q : Vec Ideal S1024x128 .bf16) (kk : Fin 768) (r : Fin 1024) :
    k0_pay13 (F := Ideal) x1 q (ix3 0 kk r) = ∑ d : Fin 128, (x1 (ix2 kk d) : EReal) * (q (ix2 r d) : EReal) := by
  pointwise [k0_pay13, k0_pay11]

theorem pay_max (s : Vec Ideal S1x768x1024 .f32) (p : Vec Ideal S1x1x1024 .f32) (z : Fin 1) (r : Fin 1024) :
    k0_pay20 (F := Ideal) s p (ix2 z r)
      = max (p (ix3 0 0 r)) (Finset.fold max (Ideal.ofBits FTy.f32 4286578688#32) (fun kk => s (ix3 0 kk r)) Finset.univ) := by
  pointwise [k0_pay20, k0_pay18, k0_pay19]

/-- A store of the largest score. -/
theorem pay_m (s : Vec Ideal S1x768x1024 .f32) (p : Vec Ideal S1x1x1024 .f32) (x : S1x1x1024.Idx)
    (S : Fin 4 → Fin 768 → Fin 1024 → EReal) (M : Fin 4 → Fin 1024 → EReal) (g : Fin 4) (r : Fin 1024) (hr : (r : ℕ) = (x 2 : ℕ))
    (hs : ∀ kk r, s (ix3 0 kk r) = S g kk r) (hp : ∀ r, p (ix3 0 0 r) = M g r) :
    k0_pay26 (F := Ideal) (k0_pay20 s p) x = mS S M g r := by
  idx_vars x
  obtain rfl : r = x2 := Fin.ext hr
  pointwise [k0_pay26]
  refine (pay_max s p 0 r).trans ?_
  simp only [hs, hp, mS]

/-- A store of the sum of exponentials. -/
theorem pay_l (s : Vec Ideal S1x768x1024 .f32) (p l : Vec Ideal S1x1x1024 .f32) (x : S1x1x1024.Idx)
    (S : Fin 4 → Fin 768 → Fin 1024 → EReal) (M L : Fin 4 → Fin 1024 → EReal) (g : Fin 4) (r : Fin 1024) (hr : (r : ℕ) = (x 2 : ℕ))
    (hs : ∀ kk r, s (ix3 0 kk r) = S g kk r) (hp : ∀ r, p (ix3 0 0 r) = M g r) (hl : ∀ r, l (ix3 0 0 r) = L g r) :
    k0_pay23 (F := Ideal) s p l x = lS S M L g r := by
  idx_vars x
  obtain rfl : r = x2 := Fin.ext hr
  obtain rfl : x0 = 0 := Subsingleton.elim _ _
  obtain rfl : x1 = 0 := Subsingleton.elim _ _
  pointwise [k0_pay23, k0_pay18, k0_pay19, k0_pay21, k0_pay22]
  have e : k0_pay20 (F := Ideal) s p (ix2 0 r) = mS S M g r := by
    refine (pay_max s p 0 r).trans ?_
    simp only [hs, hp, mS]
  simp only [e, hs, hp, hl, lS]
  rfl

/-- A store of the weighted sum of values. -/
theorem pay_a (v : Vec Ideal S768x128 .bf16) (s : Vec Ideal S1x768x1024 .f32) (p : Vec Ideal S1x1x1024 .f32)
    (l : Vec Ideal S1x128x1024 .f32) (x : S1x128x1024.Idx)
    (S : Fin 4 → Fin 768 → Fin 1024 → EReal) (M : Fin 4 → Fin 1024 → EReal) (A : Fin 4 → Fin 128 → Fin 1024 → EReal) (g : Fin 4)
    (d : Fin 128) (r : Fin 1024) (hd : (d : ℕ) = (x 1 : ℕ)) (hr : (r : ℕ) = (x 2 : ℕ))
    (hs : ∀ kk r, s (ix3 0 kk r) = S g kk r) (hp : ∀ r, p (ix3 0 0 r) = M g r) (hl : ∀ d r, l (ix3 0 d r) = A g d r) :
    k0_pay25 (F := Ideal) (k0_pay24 (k0_pay12 v) s p l) x = aS v S M A g d r := by
  idx_vars x
  obtain rfl : d = x1 := Fin.ext hd
  obtain rfl : r = x2 := Fin.ext hr
  obtain rfl : x0 = 0 := Subsingleton.elim _ _
  pointwise [k0_pay25, k0_pay24, k0_pay18, k0_pay19, k0_pay21, k0_pay22, k0_pay12]
  have e : k0_pay20 (F := Ideal) s p (ix2 0 r) = mS S M g r := by
    refine (pay_max s p 0 r).trans ?_
    simp only [hs, hp, mS]
  simp only [e, hs, hp, hl, aS]
  rfl

/-- A store of the result. -/
theorem pay_o (v : Vec Ideal S1x128x1024 .f32) (l : Vec Ideal S1x1x1024 .f32) (j : S1024x128.Idx) :
    k0_pay4 (F := Ideal) v l j = Ideal.div (v (ix3 0 (j 1) (j 0))) (l (ix3 0 0 (j 0))) := by
  pointwise [k0_pay4]
end Cert.KernelIdeal.Value
-- ==== Proof.Points.lean ====
/-
  What each grid point of the attention kernel leaves in its scratch, from what the point before left.
-/
module
public import proofs.«01_k».proof.Proof.Step
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- The scores of the point's key block against its query block. -/
def sP (c : Dev nD) (t : Fin cfg0.N) : Fin 4 → Fin 768 → Fin 1024 → EReal := scB (iblk m c 0 t) (iblk m c 1 t)
/-- The scratch after a point: largest scores, sums, weighted sums. -/
def mP (c : Dev nD) (n : ℕ) (h : n < cfg0.N) (g : Fin 4) (r : Fin 1024) : EReal := (outsAt0 m c n h).2.1 (ix3 g 0 r)
def lP (c : Dev nD) (n : ℕ) (h : n < cfg0.N) (g : Fin 4) (r : Fin 1024) : EReal := (outsAt0 m c n h).2.2.1 (ix3 g 0 r)
def aP (c : Dev nD) (n : ℕ) (h : n < cfg0.N) (g : Fin 4) (d : Fin 128) (r : Fin 1024) : EReal := (outsAt0 m c n h).2.2.2 (ix3 g d r)

/-- A head's columns of the query block, against the keys. -/
theorem hs_at (x0 : Vec Ideal S1024x512 .bf16) (x1 : Vec Ideal S768x128 .bf16) (g : Fin 4) (o : ℕ) (inb) (ho : o = g.val * 128) (kk : Fin 768) (r : Fin 1024) :
    k0_pay13 (F := Ideal) x1 (View.ld x0 (Rect.unit (s := S1024x512) ![0, o] ![1024, 128] inb)) (ix3 0 kk r) = scB x0 x1 g kk r := by
  refine (pay_s x1 _ kk r).trans ?_
  subst ho
  refine Finset.sum_congr rfl fun d _ => ?_
  congr 1
  exact View.ld_unit_apply_of x0 _ _ _ _ _ (by simp [Fin.forall_fin_succ])

theorem ld_m (X : Vec Ideal S4x1x1024 .f32) (g : Fin 4) (o : ℕ) (inb) (ho : o = g.val) (r : Fin 1024) :
    View.ld X (Rect.unit (s := S4x1x1024) ![o, 0, 0] ![1, 1, 1024] inb) (ix3 0 0 r) = X (ix3 g 0 r) := by
  subst ho
  exact View.ld_unit_apply_of X _ _ _ _ _ (by simp [Fin.forall_fin_succ])

theorem ld_a (X : Vec Ideal S4x128x1024 .f32) (g : Fin 4) (o : ℕ) (inb) (ho : o = g.val) (d : Fin 128) (r : Fin 1024) :
    View.ld X (Rect.unit (s := S4x128x1024) ![o, 0, 0] ![1, 128, 1024] inb) (ix3 0 d r) = X (ix3 g d r) := by
  subst ho
  exact View.ld_unit_apply_of X _ _ _ _ _ (by simp [Fin.forall_fin_succ])

theorem pay8_at (i) : k0_pay8 (F := Ideal) i = ⊥ := by
  have h : Ideal.ofBits FTy.f32 4286578688#32 = ⊥ := by simp [Ideal.ofBits, Ideal.ieee]
  pointwise [k0_pay8]
  exact h
theorem pay9_at (i) : k0_pay9 (F := Ideal) i = 0 := by pointwise [k0_pay9]
theorem pay10_at (i) : k0_pay10 (F := Ideal) i = 0 := by pointwise [k0_pay10]

/-- Earlier stores do not matter where later ones cover. -/
theorem canon_append_cov {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_cov L' L y ?_
      obtain ⟨q, hq, hyq⟩ := hy
      rcases List.mem_cons.mp hq with rfl | hq'
      · exact absurd hyq hm
      · exact ⟨q, hq', hyq⟩

theorem drop_m (i3 i2 i1 i0) (w3 w2 w1 w0) (q : View.Piece (Elt Ideal) S4x1x1024 .f32) (y : S4x1x1024.Idx) :
    View.canon [(⟨Rect.unit (s := S4x1x1024) ![3, 0, 0] ![1, 1, 1024] i3, w3⟩ : View.Piece (Elt Ideal) S4x1x1024 .f32), ⟨Rect.unit ![2, 0, 0] ![1, 1, 1024] i2, w2⟩,
      ⟨Rect.unit ![1, 0, 0] ![1, 1, 1024] i1, w1⟩, ⟨Rect.unit ![0, 0, 0] ![1, 1, 1024] i0, w0⟩, q] y
    = View.canon [(⟨Rect.unit (s := S4x1x1024) ![3, 0, 0] ![1, 1, 1024] i3, w3⟩ : View.Piece (Elt Ideal) S4x1x1024 .f32), ⟨Rect.unit ![2, 0, 0] ![1, 1, 1024] i2, w2⟩,
      ⟨Rect.unit ![1, 0, 0] ![1, 1, 1024] i1, w1⟩, ⟨Rect.unit ![0, 0, 0] ![1, 1, 1024] i0, w0⟩] y := by
  refine canon_append_cov [q] [_, _, _, _] y ?_
  have h0 : (y 0 : ℕ) < 4 := (y 0).isLt
  have h1 : (y 1 : ℕ) < 1 := (y 1).isLt
  have h2 : (y 2 : ℕ) < 1024 := (y 2).isLt
  rcases (by omega : (y 0 : ℕ) = 3 ∨ (y 0 : ℕ) = 2 ∨ (y 0 : ℕ) = 1 ∨ (y 0 : ℕ) = 0) with h | h | h | h
  · refine ⟨_, .head _, ?_⟩
    refine (Rect.mem_set_unit (inb := i3)).mpr ?_
    simp [Fin.forall_fin_succ]; omega
  · refine ⟨_, .tail _ (.head _), ?_⟩
    refine (Rect.mem_set_unit (inb := i2)).mpr ?_
    simp [Fin.forall_fin_succ]; omega
  · refine ⟨_, .tail _ (.tail _ (.head _)), ?_⟩
    refine (Rect.mem_set_unit (inb := i1)).mpr ?_
    simp [Fin.forall_fin_succ]; omega
  · refine ⟨_, .tail _ (.tail _ (.tail _ (.head _))), ?_⟩
    refine (Rect.mem_set_unit (inb := i0)).mpr ?_
    simp [Fin.forall_fin_succ]; omega

theorem drop_a (i3 i2 i1 i0) (w3 w2 w1 w0) (q : View.Piece (Elt Ideal) S4x128x1024 .f32) (y : S4x128x1024.Idx) :
    View.canon [(⟨Rect.unit (s := S4x128x1024) ![3, 0, 0] ![1, 128, 1024] i3, w3⟩ : View.Piece (Elt Ideal) S4x128x1024 .f32), ⟨Rect.unit ![2, 0, 0] ![1, 128, 1024] i2, w2⟩,
      ⟨Rect.unit ![1, 0, 0] ![1, 128, 1024] i1, w1⟩, ⟨Rect.unit ![0, 0, 0] ![1, 128, 1024] i0, w0⟩, q] y
    = View.canon [(⟨Rect.unit (s := S4x128x1024) ![3, 0, 0] ![1, 128, 1024] i3, w3⟩ : View.Piece (Elt Ideal) S4x128x1024 .f32), ⟨Rect.unit ![2, 0, 0] ![1, 128, 1024] i2, w2⟩,
      ⟨Rect.unit ![1, 0, 0] ![1, 128, 1024] i1, w1⟩, ⟨Rect.unit ![0, 0, 0] ![1, 128, 1024] i0, w0⟩] y := by
  refine canon_append_cov [q] [_, _, _, _] y ?_
  have h0 : (y 0 : ℕ) < 4 := (y 0).isLt
  have h1 : (y 1 : ℕ) < 128 := (y 1).isLt
  have h2 : (y 2 : ℕ) < 1024 := (y 2).isLt
  rcases (by omega : (y 0 : ℕ) = 3 ∨ (y 0 : ℕ) = 2 ∨ (y 0 : ℕ) = 1 ∨ (y 0 : ℕ) = 0) with h | h | h | h
  · refine ⟨_, .head _, ?_⟩
    refine (Rect.mem_set_unit (inb := i3)).mpr ?_
    simp [Fin.forall_fin_succ]; omega
  · refine ⟨_, .tail _ (.head _), ?_⟩
    refine (Rect.mem_set_unit (inb := i2)).mpr ?_
    simp [Fin.forall_fin_succ]; omega
  · refine ⟨_, .tail _ (.tail _ (.head _)), ?_⟩
    refine (Rect.mem_set_unit (inb := i1)).mpr ?_
    simp [Fin.forall_fin_succ]; omega
  · refine ⟨_, .tail _ (.tail _ (.tail _ (.head _))), ?_⟩
    refine (Rect.mem_set_unit (inb := i0)).mpr ?_
    simp [Fin.forall_fin_succ]; omega

theorem m_step_A (c : Dev nD) (t : Fin cfg0.N) (h0 : t.val % 11 = 0) (h1 : ¬t.val % 11 = 10) (g : Fin 4) (r : Fin 1024) :
    mP m c t.val t.isLt g r = mS (sP m c t) (fun _ _ => ⊥) g r := by
  unfold mP
  rw [outsAt0_A m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g 0 r : S4x1x1024.Idx) = y
  have e0 : (y 0 : ℕ) = g := by rw [← hy]; rfl
  have e2 : (y 2 : ℕ) = r := by rw [← hy]; rfl
  refine (drop_m _ _ _ _ _ _ _ _ _ y).trans ?_
  canon_tiles x h
  all_goals exact pay_m _ _ x _ _ g r (by omega) (fun kk r => hs_at _ _ g _ _ (by omega) kk r) (fun r => (ld_m _ g _ _ (by omega) r).trans (pay8_at _))

theorem l_step_A (c : Dev nD) (t : Fin cfg0.N) (h0 : t.val % 11 = 0) (h1 : ¬t.val % 11 = 10) (g : Fin 4) (r : Fin 1024) :
    lP m c t.val t.isLt g r = lS (sP m c t) (fun _ _ => ⊥) (fun _ _ => 0) g r := by
  unfold lP
  rw [outsAt0_A m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g 0 r : S4x1x1024.Idx) = y
  have e0 : (y 0 : ℕ) = g := by rw [← hy]; rfl
  have e2 : (y 2 : ℕ) = r := by rw [← hy]; rfl
  refine (drop_m _ _ _ _ _ _ _ _ _ y).trans ?_
  canon_tiles x h
  all_goals exact pay_l _ _ _ x _ _ _ g r (by omega) (fun kk r => hs_at _ _ g _ _ (by omega) kk r) (fun r => (ld_m _ g _ _ (by omega) r).trans (pay8_at _)) (fun r => (ld_m _ g _ _ (by omega) r).trans (pay9_at _))

theorem a_step_A (c : Dev nD) (t : Fin cfg0.N) (h0 : t.val % 11 = 0) (h1 : ¬t.val % 11 = 10) (g : Fin 4) (d : Fin 128) (r : Fin 1024) :
    aP m c t.val t.isLt g d r = aS (iblk m c 2 t) (sP m c t) (fun _ _ => ⊥) (fun _ _ _ => 0) g d r := by
  unfold aP
  rw [outsAt0_A m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g d r : S4x128x1024.Idx) = y
  have e0 : (y 0 : ℕ) = g := by rw [← hy]; rfl
  have e1 : (y 1 : ℕ) = d := by rw [← hy]; rfl
  have e2 : (y 2 : ℕ) = r := by rw [← hy]; rfl
  refine (drop_a _ _ _ _ _ _ _ _ _ y).trans ?_
  canon_tiles x h
  all_goals exact pay_a _ _ _ _ x _ _ _ g d r (by omega) (by omega) (fun kk r => hs_at _ _ g _ _ (by omega) kk r) (fun r => (ld_m _ g _ _ (by omega) r).trans (pay8_at _)) (fun d r => (ld_a _ g _ _ (by omega) d r).trans (pay10_at _))

theorem m_step_B (c : Dev nD) (t : Fin cfg0.N) (h0 : ¬t.val % 11 = 0) (h1 : ¬t.val % 11 = 10) (g : Fin 4) (r : Fin 1024) :
    mP m c t.val t.isLt g r = mS (sP m c t) (mP m c (t.val - 1) (Nat.lt_of_le_of_lt (Nat.sub_le _ _) t.isLt)) g r := by
  unfold mP
  rw [outsAt0_B m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g 0 r : S4x1x1024.Idx) = y
  have e0 : (y 0 : ℕ) = g := by rw [← hy]; rfl
  have e2 : (y 2 : ℕ) = r := by rw [← hy]; rfl
  canon_tiles x h
  all_goals exact pay_m _ _ x _ _ g r (by omega) (fun kk r => hs_at _ _ g _ _ (by omega) kk r) (fun r => ld_m _ g _ _ (by omega) r)

theorem l_step_B (c : Dev nD) (t : Fin cfg0.N) (h0 : ¬t.val % 11 = 0) (h1 : ¬t.val % 11 = 10) (g : Fin 4) (r : Fin 1024) :
    lP m c t.val t.isLt g r = lS (sP m c t) (mP m c (t.val - 1) (Nat.lt_of_le_of_lt (Nat.sub_le _ _) t.isLt)) (lP m c (t.val - 1) (Nat.lt_of_le_of_lt (Nat.sub_le _ _) t.isLt)) g r := by
  unfold lP
  rw [outsAt0_B m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g 0 r : S4x1x1024.Idx) = y
  have e0 : (y 0 : ℕ) = g := by rw [← hy]; rfl
  have e2 : (y 2 : ℕ) = r := by rw [← hy]; rfl
  canon_tiles x h
  all_goals exact pay_l _ _ _ x _ _ _ g r (by omega) (fun kk r => hs_at _ _ g _ _ (by omega) kk r) (fun r => ld_m _ g _ _ (by omega) r) (fun r => ld_m _ g _ _ (by omega) r)

theorem a_step_B (c : Dev nD) (t : Fin cfg0.N) (h0 : ¬t.val % 11 = 0) (h1 : ¬t.val % 11 = 10) (g : Fin 4) (d : Fin 128) (r : Fin 1024) :
    aP m c t.val t.isLt g d r = aS (iblk m c 2 t) (sP m c t) (mP m c (t.val - 1) (Nat.lt_of_le_of_lt (Nat.sub_le _ _) t.isLt)) (aP m c (t.val - 1) (Nat.lt_of_le_of_lt (Nat.sub_le _ _) t.isLt)) g d r := by
  unfold aP
  rw [outsAt0_B m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g d r : S4x128x1024.Idx) = y
  have e0 : (y 0 : ℕ) = g := by rw [← hy]; rfl
  have e1 : (y 1 : ℕ) = d := by rw [← hy]; rfl
  have e2 : (y 2 : ℕ) = r := by rw [← hy]; rfl
  canon_tiles x h
  all_goals exact pay_a _ _ _ _ x _ _ _ g d r (by omega) (by omega) (fun kk r => hs_at _ _ g _ _ (by omega) kk r) (fun r => ld_m _ g _ _ (by omega) r) (fun d r => ld_a _ g _ _ (by omega) d r)

theorem m_step_C (c : Dev nD) (t : Fin cfg0.N) (h0 : ¬t.val % 11 = 0) (h1 : t.val % 11 = 10) (g : Fin 4) (r : Fin 1024) :
    mP m c t.val t.isLt g r = mS (sP m c t) (mP m c (t.val - 1) (Nat.lt_of_le_of_lt (Nat.sub_le _ _) t.isLt)) g r := by
  unfold mP
  rw [outsAt0_C m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g 0 r : S4x1x1024.Idx) = y
  have e0 : (y 0 : ℕ) = g := by rw [← hy]; rfl
  have e2 : (y 2 : ℕ) = r := by rw [← hy]; rfl
  canon_tiles x h
  all_goals exact pay_m _ _ x _ _ g r (by omega) (fun kk r => hs_at _ _ g _ _ (by omega) kk r) (fun r => ld_m _ g _ _ (by omega) r)

theorem l_step_C (c : Dev nD) (t : Fin cfg0.N) (h0 : ¬t.val % 11 = 0) (h1 : t.val % 11 = 10) (g : Fin 4) (r : Fin 1024) :
    lP m c t.val t.isLt g r = lS (sP m c t) (mP m c (t.val - 1) (Nat.lt_of_le_of_lt (Nat.sub_le _ _) t.isLt)) (lP m c (t.val - 1) (Nat.lt_of_le_of_lt (Nat.sub_le _ _) t.isLt)) g r := by
  unfold lP
  rw [outsAt0_C m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g 0 r : S4x1x1024.Idx) = y
  have e0 : (y 0 : ℕ) = g := by rw [← hy]; rfl
  have e2 : (y 2 : ℕ) = r := by rw [← hy]; rfl
  canon_tiles x h
  all_goals exact pay_l _ _ _ x _ _ _ g r (by omega) (fun kk r => hs_at _ _ g _ _ (by omega) kk r) (fun r => ld_m _ g _ _ (by omega) r) (fun r => ld_m _ g _ _ (by omega) r)

theorem a_step_C (c : Dev nD) (t : Fin cfg0.N) (h0 : ¬t.val % 11 = 0) (h1 : t.val % 11 = 10) (g : Fin 4) (d : Fin 128) (r : Fin 1024) :
    aP m c t.val t.isLt g d r = aS (iblk m c 2 t) (sP m c t) (mP m c (t.val - 1) (Nat.lt_of_le_of_lt (Nat.sub_le _ _) t.isLt)) (aP m c (t.val - 1) (Nat.lt_of_le_of_lt (Nat.sub_le _ _) t.isLt)) g d r := by
  unfold aP
  rw [outsAt0_C m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix3 g d r : S4x128x1024.Idx) = y
  have e0 : (y 0 : ℕ) = g := by rw [← hy]; rfl
  have e1 : (y 1 : ℕ) = d := by rw [← hy]; rfl
  have e2 : (y 2 : ℕ) = r := by rw [← hy]; rfl
  canon_tiles x h
  all_goals exact pay_a _ _ _ _ x _ _ _ g d r (by omega) (by omega) (fun kk r => hs_at _ _ g _ _ (by omega) kk r) (fun r => ld_m _ g _ _ (by omega) r) (fun d r => ld_a _ g _ _ (by omega) d r)

/-- At a run's last point: the block written back is the weighted sum over the sum. -/
theorem out_C (c : Dev nD) (t : Fin cfg0.N) (h0 : ¬t.val % 11 = 0) (h1 : t.val % 11 = 10) (g : Fin 4) (d : Fin 128) (r : Fin 1024) :
    (outsAt0 m c t.val t.isLt).1 (ix2 r ⟨g.val * 128 + d.val, by omega⟩) = Ideal.div (aP m c t.val t.isLt g d r) (lP m c t.val t.isLt g r) := by
  rw [a_step_C m c t h0 h1, l_step_C m c t h0 h1]
  rw [outsAt0_C m c t h0 h1]
  frame_out
  simp (disch := decide) only [↓View.readCov_skip, ↓View.readCov_fill, ↓View.readCov_cons_toLoadRect, read_unread_whole,
    e14, e15, e17, m1, m2, m3, l1, l2, l3, a1, a2, a3, o1, o2, o3]
  generalize hy : (ix2 r ⟨g.val * 128 + d.val, by omega⟩ : S1024x512.Idx) = y
  have e0 : (y 0 : ℕ) = r := by rw [← hy]; rfl
  have e1 : (y 1 : ℕ) = g.val * 128 + d.val := by rw [← hy]; rfl
  canon_tiles x h
  all_goals
    exact (pay_o _ _ x).trans (congrArg₂ Ideal.div
      (pay_a _ _ _ _ (ix3 0 (x 1) (x 0)) _ _ _ g d r (show (d : ℕ) = (x 1 : ℕ) by omega) (show (r : ℕ) = (x 0 : ℕ) by omega)
        (fun kk r => hs_at _ _ g _ _ (by omega) kk r) (fun r => ld_m _ g _ _ (by omega) r) (fun d r => ld_a _ g _ _ (by omega) d r))
      (pay_l _ _ _ (ix3 0 0 (x 0)) _ _ _ g r (show (r : ℕ) = (x 0 : ℕ) by omega)
        (fun kk r => hs_at _ _ g _ _ (by omega) kk r) (fun r => ld_m _ g _ _ (by omega) r) (fun r => ld_m _ g _ _ (by omega) r)))

end Cert.KernelIdeal.Value
-- ==== Proof.Blocks.lean ====
/-
  The blocks the attention kernel reads, as entries of the arguments.
-/
module
public import proofs.«01_k».proof.Proof.Points
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- The scale the host multiplies the queries by. -/
def SC : EReal := Ideal.div (Ideal.ofBits .f32 0x3F800000#32) (Ideal.sqrt (Ideal.ofBits .f32 0x43000000#32) * Ideal.log (Ideal.ofBits .f32 0x40000000#32))

/-- The queries, over their literal shape. -/
abbrev aQ (c : Dev nD) : FVec Ideal S8192x2048 .f32 := m ((c : Thread nD τ).loc main_arg0)

/-- The context rows in front of the sequence's rows. -/
def join (x : FVec Ideal S256x512 .f32) (y : FVec Ideal S8192x512 .f32) (n : Fin 8448) (b : Fin 512) : EReal :=
  if h : n.val < 256 then x (ix2 ⟨n.val, h⟩ b) else y (ix2 ⟨n.val - 256, by omega⟩ b)

theorem V_q (c : Dev nD) (a : Fin 8192) (b : Fin 2048) :
    V m c main_v7 (ix2 a ⟨b.val, by omega⟩) = aQ m c (ix2 a b) * SC := by
  entry_read
  pointwise [SC]

theorem V_k (c : Dev nD) (n : Fin 8448) (b : Fin 512) :
    V m c main_v10 (ix2 n b) = join (m ((c : Thread nD τ).loc main_arg3)) (m ((c : Thread nD τ).loc main_arg1)) n b := by
  entry_read
  pointwise [join]
  split <;> rfl

theorem V_v (c : Dev nD) (n : Fin 8448) (b : Fin 512) :
    V m c main_v12 (ix2 n b) = join (m ((c : Thread nD τ).loc main_arg4)) (m ((c : Thread nD τ).loc main_arg2)) n b := by
  entry_read
  pointwise [join]

theorem idx : ∀ t : Fin cfg0.N, win0_0.index t = ![t.val / 11 % 8, t.val / 88] ∧ win0_1.index t = ![t.val % 11, t.val / 88]
    ∧ win0_2.index t = ![t.val % 11, t.val / 88] ∧ win0_3.index t = ![t.val / 11 % 8, t.val / 88] :=
  (by decide +kernel : ∀ t : Fin grid0.N, _)

theorem lt_N (t : Fin cfg0.N) : t.val < 352 := lt_of_lt_of_eq t.isLt N_0

theorem q_at (c : Dev nD) (t : Fin cfg0.N) (r : Fin 1024) (b : Fin 512) : iblk m c 0 t (ix2 r b)
    = aQ m c (ix2 ⟨t.val / 11 % 8 * 1024 + r.val, by omega⟩ ⟨t.val / 88 * 512 + b.val, by have := lt_N t; omega⟩) * SC := by
  refine Eq.trans ?_ (V_q m c _ _)
  blk_ext [iblk, idx t]

theorem k_at (c : Dev nD) (t : Fin cfg0.N) (kk : Fin 768) (d : Fin 128) : iblk m c 1 t (ix2 kk d)
    = join (m ((c : Thread nD τ).loc main_arg3)) (m ((c : Thread nD τ).loc main_arg1)) ⟨t.val % 11 * 768 + kk.val, by omega⟩ ⟨t.val / 88 * 128 + d.val, by have := lt_N t; omega⟩ := by
  refine Eq.trans ?_ (V_k m c _ _)
  blk_ext [iblk, idx t]

theorem v_at (c : Dev nD) (t : Fin cfg0.N) (kk : Fin 768) (d : Fin 128) : iblk m c 2 t (ix2 kk d)
    = join (m ((c : Thread nD τ).loc main_arg4)) (m ((c : Thread nD τ).loc main_arg2)) ⟨t.val % 11 * 768 + kk.val, by omega⟩ ⟨t.val / 88 * 128 + d.val, by have := lt_N t; omega⟩ := by
  refine Eq.trans ?_ (V_v m c _ _)
  blk_ext [iblk, idx t]

end Cert.KernelIdeal.Value
-- ==== Proof.Gelu.lean ====
/- The two spellings of the tanh GELU agree on every extended real: `x / (1 + 2 ^ (x (c₁ + c₃ x²)))`, with
   `c₁ = -2 s / ln 2` and `c₃ = c₁ κ`, against `x (1/2 (1 + tanh (s (x + κ x³))))`. -/
module

public import Idealize.ShloMosaic.PureOps.Ideal.Laws
public import Idealize.ShloMosaic.Lib.IdealHost
public import Mathlib.Analysis.SpecialFunctions.Trigonometric.DerivHyp
public import Mathlib.Analysis.SpecialFunctions.Pow.Real

@[expose] public section

noncomputable section

open Idealize.ShloMosaic

namespace Cert.Gelu

/-- A power of two with a quotient by `ln 2` in the exponent is an exponential. -/
theorem rpow_two_div_log (z : ℝ) : Real.rpow 2 (z * (Real.log 2)⁻¹) = Real.exp z := by
  have h2 : Real.log 2 ≠ 0 := (Real.log_pos (by norm_num)).ne'
  have e : Real.rpow 2 (z * (Real.log 2)⁻¹) = (2 : ℝ) ^ (z * (Real.log 2)⁻¹) := rfl
  rw [e, Real.rpow_def_of_pos (by norm_num)]
  congr 1
  field_simp

theorem half_one_add_tanh (u : ℝ) : 1 / 2 * (1 + Real.tanh u) = (1 + Real.exp (-2 * u))⁻¹ := by
  rw [Real.tanh_eq_sinh_div_cosh, Real.sinh_eq, Real.cosh_eq]
  have hp := Real.exp_pos u
  have hn := Real.exp_pos (-u)
  have e : Real.exp (-2 * u) = Real.exp (-u) * Real.exp (-u) := by rw [← Real.exp_add]; congr 1; ring
  have e1 : Real.exp u * Real.exp (-u) = 1 := by rw [← Real.exp_add]; simp
  rw [e]
  have h1 : 1 + Real.exp (-u) * Real.exp (-u) ≠ 0 := by positivity
  have h2 : Real.exp u + Real.exp (-u) ≠ 0 := by positivity
  field_simp
  linear_combination (2 * Real.exp (-u)) * e1

theorem f32_s : Ideal.ofBits .f32 0x3F4C422A#32 = ((6693141 / 8388608 : ℝ) : EReal) := by
  simp [Ideal.ofBits, Ideal.ieee, -EReal.coe_mul]; norm_num

theorem f32_k : Ideal.ofBits .f32 0x3D372713#32 = ((12003091 / 268435456 : ℝ) : EReal) := by
  simp [Ideal.ofBits, Ideal.ieee, -EReal.coe_mul]; norm_num

theorem f32_half : Ideal.ofBits .f32 0x3F000000#32 = ((1 / 2 : ℝ) : EReal) := by
  simp [Ideal.ofBits, Ideal.ieee, -EReal.coe_mul]; norm_num

/-- The two forms agree at the constants of the programs. -/
theorem gelu_eq (x : EReal) :
    Ideal.div x (1 + Ideal.exp2 (x * ((((-6693141 / 4194304) * (Real.log 2)⁻¹ : ℝ) : EReal)
        + (((-80338380498831 / 1125899906842624) * (Real.log 2)⁻¹ : ℝ) : EReal) * (x * x))))
      = x * (Ideal.ofBits .f32 0x3F000000#32 * (1 + Ideal.tanh (Ideal.ofBits .f32 0x3F4C422A#32
          * (x + Ideal.ofBits .f32 0x3D372713#32 * (x * x * x))))) := by
  have hl : 0 < (Real.log 2)⁻¹ := inv_pos.mpr (Real.log_pos (by norm_num))
  have hc : (-80338380498831 / 1125899906842624) * (Real.log 2)⁻¹ < 0 := mul_neg_of_neg_of_pos (by norm_num) hl
  rw [f32_half, f32_s, f32_k]
  induction x with
  | bot =>
    rw [EReal.bot_mul_bot, EReal.coe_mul_top_of_neg hc, EReal.add_bot, EReal.bot_mul_bot, Ideal.exp2_top,
      EReal.add_top_of_ne_bot (show (1 : EReal) ≠ ⊥ from EReal.coe_ne_bot 1), EReal.top_mul_bot, EReal.coe_mul_bot_of_pos (by norm_num),
      EReal.bot_add, EReal.coe_mul_bot_of_pos (by norm_num), Ideal.tanh_bot, Ideal.div, if_neg (by simp)]
    have : (1 : EReal) + -1 = 0 := by rw [← EReal.coe_one, ← EReal.coe_neg, ← EReal.coe_add]; simp
    rw [this]; simp
  | top =>
    rw [EReal.top_mul_top, EReal.coe_mul_top_of_neg hc, EReal.add_bot, EReal.top_mul_bot, Ideal.exp2_bot, add_zero,
      EReal.top_mul_top, EReal.coe_mul_top_of_pos (by norm_num), EReal.top_add_top,
      EReal.coe_mul_top_of_pos (by norm_num), Ideal.tanh_top, Ideal.div, if_neg one_ne_zero]
    have : (1 : EReal) + 1 = ((2 : ℝ) : EReal) := by rw [← EReal.coe_one, ← EReal.coe_add]; norm_num
    rw [this, ← EReal.coe_mul]; norm_num
  | coe r =>
    simp only [← EReal.coe_mul, ← EReal.coe_add, Ideal.exp2_coe, Ideal.tanh_coe, ← EReal.coe_one]
    have e : r * ((-6693141 / 4194304) * (Real.log 2)⁻¹ + (-80338380498831 / 1125899906842624) * (Real.log 2)⁻¹ * (r * r))
        = (-2 * (6693141 / 8388608 * (r + 12003091 / 268435456 * (r * r * r)))) * (Real.log 2)⁻¹ := by ring
    rw [e, rpow_two_div_log, half_one_add_tanh, Ideal.div_coe (by positivity), one_div, ← EReal.coe_mul]

end Cert.Gelu

end
-- ==== Proof.Softmax.lean ====
/-
  A weighted mean by softmax weights, computed block by block with a running maximum.
-/
module
public import proofs.«01_k».proof.Proof.Gelu
public import Idealize.ShloMosaic.PureOps.Ideal.Laws
@[expose] public section
noncomputable section
open Idealize.ShloMosaic
namespace Cert.Softmax

/-- After the keys below `n` with scores `X` (exponents of two) and values `W`: for some real `μ`, the
    running maximum is `μ`, and the two sums are the ones of the weights `2 ^ (X - μ)`. -/
def Inv (n : ℕ) (X : ℕ → ℝ) (W : ℕ → EReal) (M L A : EReal) : Prop :=
  ∃ μ : ℝ, M = (μ : EReal) ∧ L = ((∑ i ∈ Finset.range n, (2 : ℝ) ^ (X i - μ) : ℝ) : EReal)
    ∧ A = ∑ i ∈ Finset.range n, W i * (((2 : ℝ) ^ (X i - μ) : ℝ) : EReal)

theorem fold_max_real {ι : Type} [Fintype ι] [Nonempty ι] (f : ι → ℝ) (b : EReal) (hb : b = ⊥) :
    ∃ μ : ℝ, Finset.fold max b (fun i => (f i : EReal)) Finset.univ = (μ : EReal) := by
  subst hb
  classical
  have key : ∀ s : Finset ι, s.Nonempty → ∃ μ : ℝ, Finset.fold max ⊥ (fun i => (f i : EReal)) s = (μ : EReal) := by
    intro s
    induction s using Finset.induction_on with
    | empty => intro h; exact absurd h (by simp)
    | insert a s ha ih =>
      intro _
      rw [Finset.fold_insert ha]
      by_cases hs : s.Nonempty
      · obtain ⟨μ, hμ⟩ := ih hs
        rw [hμ]
        exact ⟨max (f a) μ, (EReal.coe_strictMono.monotone.map_max).symm⟩
      · rw [Finset.not_nonempty_iff_eq_empty.mp hs, Finset.fold_empty, max_eq_left bot_le]
        exact ⟨f a, rfl⟩
  exact key _ Finset.univ_nonempty

theorem coe_mul_sum (c : ℝ) (hc : 0 ≤ c) {ι : Type} (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_sub (x μ : ℝ) : Ideal.exp2 ((x : EReal) - (μ : EReal)) = (((2 : ℝ) ^ (x - μ) : ℝ) : EReal) := by
  rw [← EReal.coe_sub, Ideal.exp2_coe]; rfl

/-- The first block, from a scratch of `-∞`, zero and zero. -/
theorem inv_first {K : ℕ} [NeZero K] (X : ℕ → ℝ) (W : ℕ → EReal) (b : EReal) (hb : b = ⊥) (S : Fin K → EReal) (V : Fin K → EReal)
    (hS : ∀ kk, S kk = (X kk.val : EReal)) (hV : ∀ kk, V kk = W kk.val) :
    let M' := max (⊥ : EReal) (Finset.fold max b S Finset.univ)
    Inv K X W M' (Ideal.exp2 (⊥ - M') * 0 + ∑ kk, Ideal.exp2 (S kk - M'))
      (Ideal.exp2 (⊥ - M') * 0 + ∑ kk, V kk * Ideal.exp2 (S kk - M')) := by
  intro M'
  obtain ⟨μ, hμ⟩ := fold_max_real (fun kk : Fin K => X kk.val) b hb
  have hM : M' = (μ : EReal) := by
    show max (⊥ : EReal) _ = _
    rw [max_eq_right bot_le, ← hμ]
    congr 1; exact funext hS
  refine ⟨μ, hM, ?_, ?_⟩
  · rw [hM, mul_zero, zero_add, coe_sum, Finset.sum_range]
    exact Finset.sum_congr rfl fun kk _ => by rw [hS, exp2_sub]
  · rw [hM, mul_zero, zero_add, Finset.sum_range]
    exact Finset.sum_congr rfl fun kk _ => by rw [hS, hV, exp2_sub]

/-- A later block. -/
theorem inv_step {K : ℕ} [NeZero K] (n : ℕ) (X : ℕ → ℝ) (W : ℕ → EReal) (b : EReal) (hb : b = ⊥) (M L A : EReal) (S : Fin K → EReal) (V : Fin K → EReal)
    (hI : Inv n X W M L A) (hS : ∀ kk, S kk = (X (n + kk.val) : EReal)) (hV : ∀ kk, V kk = W (n + kk.val)) :
    let M' := max M (Finset.fold max b S Finset.univ)
    Inv (n + K) X W M' (Ideal.exp2 (M - M') * L + ∑ kk, Ideal.exp2 (S kk - M'))
      (Ideal.exp2 (M - M') * A + ∑ kk, V kk * Ideal.exp2 (S kk - M')) := by
  intro M'
  obtain ⟨μ, hMμ, hL, hA⟩ := hI
  obtain ⟨ν, hν⟩ := fold_max_real (fun kk : Fin K => X (n + kk.val)) b hb
  have hM : M' = ((max μ ν : ℝ) : EReal) := by
    show max M _ = _
    rw [hMμ, EReal.coe_strictMono.monotone.map_max, ← hν]
    congr 2; exact funext hS
  generalize max μ ν = ρ at hM
  have hpow : ∀ x : ℝ, (2 : ℝ) ^ (μ - ρ) * (2 : ℝ) ^ (x - μ) = (2 : ℝ) ^ (x - ρ) := fun x => by
    rw [← Real.rpow_add (by norm_num)]; congr 1; ring
  refine ⟨ρ, hM, ?_, ?_⟩
  · rw [hM, hMμ, hL, exp2_sub, ← EReal.coe_mul, Finset.mul_sum, Finset.sum_range_add, EReal.coe_add]
    refine congr_arg₂ _ ?_ ?_
    · exact congr_arg _ (Finset.sum_congr rfl fun i _ => hpow _)
    · rw [coe_sum, Finset.sum_range]
      exact Finset.sum_congr rfl fun kk _ => by rw [hS, exp2_sub]
  · rw [hM, hMμ, hA, exp2_sub, coe_mul_sum _ (by positivity), Finset.sum_range_add]
    refine congr_arg₂ _ ?_ ?_
    · refine Finset.sum_congr rfl fun i _ => ?_
      rw [mul_left_comm, ← EReal.coe_mul, hpow]
    · rw [Finset.sum_range]
      exact Finset.sum_congr rfl fun kk _ => by rw [hS, hV, exp2_sub]

/-- The quotient at the end is the mean by softmax weights, the scores `Y` in units of `e`. -/
theorem inv_out {N : ℕ} [NeZero N] (X : ℕ → ℝ) (W : ℕ → EReal) (M L A : EReal) (hI : Inv N X W M L A)
    (Y : Fin N → EReal) (hY : ∀ i, Y i = ((X i.val * Real.log 2 : ℝ) : EReal)) (ν : EReal) (hν : ∃ r : ℝ, ν = (r : EReal)) :
    Ideal.div A L = ∑ i : Fin N, W i.val * Ideal.div (Ideal.exp (Y i - ν)) (∑ k : Fin N, Ideal.exp (Y k - ν)) := by
  obtain ⟨μ, -, hL, hA⟩ := hI
  obtain ⟨r, rfl⟩ := hν
  have hl : Real.log 2 ≠ 0 := (Real.log_pos (by norm_num)).ne'
  have he : ∀ i, Ideal.exp (Y i - (r : EReal)) = ((Real.exp (X i.val * Real.log 2 - r) : ℝ) : EReal) := fun i => by
    rw [hY, ← EReal.coe_sub, Ideal.exp_coe]
  have hw : ∀ x : ℝ, Real.exp (x * Real.log 2 - r) = (2 : ℝ) ^ (x - μ) * Real.exp (μ * Real.log 2 - r) := fun x => by
    rw [Real.rpow_def_of_pos (by norm_num), ← Real.exp_add]; congr 1; ring
  have hp : 0 < ∑ i ∈ Finset.range N, (2 : ℝ) ^ (X i - μ) :=
    Finset.sum_pos (fun i _ => by positivity) ⟨0, Finset.mem_range.mpr (Nat.pos_of_ne_zero (NeZero.ne N))⟩
  have hs : (∑ k : Fin N, Ideal.exp (Y k - (r : EReal))) = (((∑ i ∈ Finset.range N, (2 : ℝ) ^ (X i - μ)) * Real.exp (μ * Real.log 2 - r) : ℝ) : EReal) := by
    rw [Finset.sum_mul, Finset.sum_range, coe_sum]
    exact Finset.sum_congr rfl fun k _ => by rw [he, hw]
  rw [hs, hL, hA]
  generalize (∑ i ∈ Finset.range N, (2 : ℝ) ^ (X i - μ)) = Z at hp
  have hE : 0 < Real.exp (μ * Real.log 2 - r) := Real.exp_pos _
  rw [Ideal.div_coe hp.ne', mul_comm, coe_mul_sum _ (by positivity), Finset.sum_range]
  refine Finset.sum_congr rfl fun i _ => ?_
  rw [he, hw, Ideal.div_coe (by positivity), mul_left_comm, ← EReal.coe_mul, ← EReal.coe_mul]
  congr 2
  field_simp

end Cert.Softmax
-- ==== Proof.Online.lean ====
/-
  Along the key blocks of one query block and head, the attention kernel's scratch holds the running
  maximum and the two sums of the softmax over the keys so far.
-/
module
public import proofs.«01_k».proof.Proof.Blocks
public import proofs.«01_k».proof.Proof.Softmax
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- Key `n`'s score against query row `R` of head `(h, g)`, as the kernel computes it. -/
def score (c : Dev nD) (h g : Fin 4) (R : Fin 8192) (n : Fin 8448) : EReal :=
  ∑ d : Fin 128, join (m ((c : Thread nD τ).loc main_arg3)) (m ((c : Thread nD τ).loc main_arg1)) n ⟨h.val * 128 + d.val, by omega⟩
    * (aQ m c (ix2 R ⟨h.val * 512 + (g.val * 128 + d.val), by omega⟩) * SC)

/-- The scores as real numbers, and the values, over all naturals. -/
def Xs (c : Dev nD) (h g : Fin 4) (R : Fin 8192) (n : ℕ) : ℝ := if hn : n < 8448 then (score m c h g R ⟨n, hn⟩).toReal else 0
def Ws (c : Dev nD) (h : Fin 4) (d : Fin 128) (n : ℕ) : EReal :=
  if hn : n < 8448 then join (m ((c : Thread nD τ).loc main_arg4)) (m ((c : Thread nD τ).loc main_arg2)) ⟨n, hn⟩ ⟨h.val * 128 + d.val, by omega⟩ else 0

/-- Every score is a real number. -/
def Real (c : Dev nD) : Prop := ∀ h g R n, ∃ r : ℝ, score m c h g R n = (r : EReal)

theorem bot_bits : Ideal.ofBits FTy.f32 4286578688#32 = ⊥ := by simp [Ideal.ofBits, Ideal.ieee]

/-- The head and the query row of a grid point. -/
abbrev hd (t : Fin cfg0.N) : Fin 4 := ⟨t.val / 88, by have := lt_N t; omega⟩
abbrev row (t : Fin cfg0.N) (r : Fin 1024) : Fin 8192 := ⟨t.val / 11 % 8 * 1024 + r.val, by omega⟩

theorem sP_at (c : Dev nD) (hr : Real m c) (t : Fin cfg0.N) (g : Fin 4) (kk : Fin 768) (r : Fin 1024) :
    sP m c t g kk r = (Xs m c (hd t) g (row t r) (t.val % 11 * 768 + kk.val) : EReal) := by
  have hn : t.val % 11 * 768 + kk.val < 8448 := by omega
  obtain ⟨x, hx⟩ := hr (hd t) g (row t r) ⟨_, hn⟩
  rw [Xs, dif_pos hn, hx, EReal.toReal_coe, ← hx]
  unfold sP scB score
  refine Finset.sum_congr rfl fun d _ => ?_
  exact congrArg₂ _ (k_at m c t kk d) (q_at m c t r _)

theorem vP_at (c : Dev nD) (t : Fin cfg0.N) (kk : Fin 768) (d : Fin 128) :
    iblk m c 2 t (ix2 kk d) = Ws m c (hd t) d (t.val % 11 * 768 + kk.val) := by
  have hn : t.val % 11 * 768 + kk.val < 8448 := by omega
  rw [Ws, dif_pos hn]
  exact v_at m c t kk d

theorem inv (c : Dev nD) (hr : Real m c) (g : Fin 4) (d : Fin 128) (r : Fin 1024) : ∀ (n : ℕ) (hn : n < cfg0.N),
    Cert.Softmax.Inv (n % 11 * 768 + 768) (Xs m c (hd ⟨n, hn⟩) g (row ⟨n, hn⟩ r)) (Ws m c (hd ⟨n, hn⟩) d)
      (mP m c n hn g r) (lP m c n hn g r) (aP m c n hn g d r) := by
  intro n
  induction n with
  | zero =>
    intro hn
    rw [m_step_A m c ⟨0, hn⟩ rfl (by decide : ¬ 0 % 11 = 10), l_step_A m c ⟨0, hn⟩ rfl (by decide : ¬ 0 % 11 = 10), a_step_A m c ⟨0, hn⟩ rfl (by decide : ¬ 0 % 11 = 10)]
    exact Cert.Softmax.inv_first _ _ _ bot_bits _ _ (fun kk => by rw [sP_at m c hr]; simp) (fun kk => by rw [vP_at m c]; simp)
  | succ n ih =>
    intro hn
    by_cases h0 : (n + 1) % 11 = 0
    · have h1 : ¬ (n + 1) % 11 = 10 := by omega
      rw [m_step_A m c ⟨n + 1, hn⟩ h0 h1, l_step_A m c ⟨n + 1, hn⟩ h0 h1, a_step_A m c ⟨n + 1, hn⟩ h0 h1, h0]
      exact Cert.Softmax.inv_first _ _ _ bot_bits _ _ (fun kk => by rw [sP_at m c hr]; simp [h0]) (fun kk => by rw [vP_at m c]; simp [h0])
    · have hn' : n < cfg0.N := by omega
      have e1 : hd ⟨n + 1, hn⟩ = hd ⟨n, hn'⟩ := by apply Fin.ext; show (n + 1) / 88 = n / 88; omega
      have e2 : row ⟨n + 1, hn⟩ r = row ⟨n, hn'⟩ r := by apply Fin.ext; show (n + 1) / 11 % 8 * 1024 + r.val = n / 11 % 8 * 1024 + r.val; omega
      have e3 : (n + 1) % 11 * 768 = n % 11 * 768 + 768 := by omega
      have I := ih hn'
      rw [← e1, ← e2, ← e3] at I
      have key := Cert.Softmax.inv_step (K := 768) _ _ _ _ bot_bits _ _ _ (fun kk => sP m c ⟨n + 1, hn⟩ g kk r) (fun kk => iblk m c 2 ⟨n + 1, hn⟩ (ix2 kk d)) I
        (fun kk => sP_at m c hr ⟨n + 1, hn⟩ g kk r) (fun kk => vP_at m c ⟨n + 1, hn⟩ kk d)
      by_cases h1 : (n + 1) % 11 = 10
      · rw [m_step_C m c ⟨n + 1, hn⟩ h0 h1, l_step_C m c ⟨n + 1, hn⟩ h0 h1, a_step_C m c ⟨n + 1, hn⟩ h0 h1]
        exact key
      · rw [m_step_B m c ⟨n + 1, hn⟩ h0 h1, l_step_B m c ⟨n + 1, hn⟩ h0 h1, a_step_B m c ⟨n + 1, hn⟩ h0 h1]
        exact key

end Cert.KernelIdeal.Value
-- ==== Proof.RefRead.lean ====
/-
  The reference attention at an index: the mean of the values by softmax weights.
-/
module
public import proofs.«01_k».proof.Proof.Blocks
public import proofs.«01_k».proof.Proof.Softmax
public import proofs.«01_k».proof.Proof.Gen.ReferenceIdeal.Read
public import Idealize.ShloMosaic.Lib.Pointwise
@[expose] public section
set_option maxRecDepth 16384
noncomputable section
open Idealize.ShloMosaic Idealize.ShloMosaic.TcCoe Idealize.SL.Sem
namespace Cert.ReferenceIdeal.Read
open Cert.ReferenceIdeal Cert.ReferenceIdeal.Gen
open Cert.KernelIdeal.Value (join)

variable (x0 : FVec Ideal S8192x2048 .f32) (x1 x2 : FVec Ideal S8192x512 .f32) (x3 x4 : FVec Ideal S256x512 .f32)

theorem v5_at (n : Fin 8448) (h : Fin 4) (d : Fin 128) :
    val_main_v5 (F := Ideal) x1 x3 (ix3 n h d) = join x3 x1 n ⟨h.val * 128 + d.val, by omega⟩ := by
  pointwise [val_main_v5, val_main_v3, val_main_v1, join]
  all_goals blk_ext []

theorem v6_at (n : Fin 8448) (h : Fin 4) (d : Fin 128) :
    val_main_v6 (F := Ideal) x2 x4 (ix3 n h d) = join x4 x2 n ⟨h.val * 128 + d.val, by omega⟩ := by
  pointwise [val_main_v6, val_main_v4, val_main_v2, join]
  all_goals blk_ext []

theorem v12_at (h g : Fin 4) (R : Fin 8192) (n : Fin 8448) : val_main_v12 (F := Ideal) x0 x1 x3 (ix4 h g R n)
    = (∑ d : Fin 128, join x3 x1 n ⟨h.val * 128 + d.val, by omega⟩ * x0 (ix2 R ⟨h.val * 512 + (g.val * 128 + d.val), by omega⟩))
      * Ideal.div (Ideal.ofBits .f32 0x3F800000#32) (Ideal.sqrt (Ideal.ofBits .f32 0x43000000#32)) := by
  rw [val_main_v12_apply, val_main_v10_apply, val_main_v9_apply]
  refine congrArg₂ _ (Finset.sum_congr rfl fun d _ => congrArg₂ _ ?_ ?_) ?_
  · refine Eq.trans ?_ (v5_at x1 x3 n h d)
    blk_ext []
  · rw [val_main_v0_apply]
    blk_ext []
  · rfl

theorem v15_real (hr : ∀ h g R n, ∃ r : ℝ, val_main_v12 (F := Ideal) x0 x1 x3 (ix4 h g R n) = (r : EReal)) (h g : Fin 4) (R : Fin 8192) :
    ∃ r : ℝ, val_main_v15 (F := Ideal) x0 x1 x3 (ix3 h g R) = (r : EReal) := by
  have e : val_main_v15 (F := Ideal) x0 x1 x3 (ix3 h g R) = max (Ideal.ofBits .f32 0xFF800000#32)
      (Finset.fold max (Ideal.ofBits .f32 0xFF800000#32) (fun n : Fin 8448 => val_main_v12 (F := Ideal) x0 x1 x3 (ix4 h g R n)) Finset.univ) := by
    rw [val_main_v15_apply, val_main_v13]
    generalize val_main_v12 (F := Ideal) x0 x1 x3 = Y
    pointwise [val_main_v14, val_main_cst_1, val_main_cst_2]
  choose f hf using fun n => hr h g R n
  obtain ⟨μ, hμ⟩ := Cert.Softmax.fold_max_real f (Ideal.ofBits .f32 0xFF800000#32) (by simp [Ideal.ofBits, Ideal.ieee])
  refine ⟨μ, ?_⟩
  rw [e]
  simp only [hf, hμ]
  exact max_eq_right (by simp [Ideal.ofBits, Ideal.ieee])

theorem v19_at (h g : Fin 4) (R : Fin 8192) (n : Fin 8448) : val_main_v19 (F := Ideal) x0 x1 x3 (ix4 h g R n)
    = Ideal.exp (val_main_v12 (F := Ideal) x0 x1 x3 (ix4 h g R n) - val_main_v15 (F := Ideal) x0 x1 x3 (ix3 h g R)) := by
  rw [val_main_v19_apply, val_main_v18_apply, val_main_v17_apply, val_main_v16_apply]
  have e : idx_main_v16 (idx_main_v17 (ix4 h g R n)) = ix3 h g R := by
    funext a
    match a with
    | ⟨0, _⟩ => rfl
    | ⟨1, _⟩ => rfl
    | ⟨2, _⟩ => rfl
  rw [e]
  rfl

theorem v23_at (h g : Fin 4) (R : Fin 8192) (n : Fin 8448) : val_main_v23 (F := Ideal) x0 x1 x3 (ix4 h g R n)
    = Ideal.div (Ideal.exp (val_main_v12 (F := Ideal) x0 x1 x3 (ix4 h g R n) - val_main_v15 (F := Ideal) x0 x1 x3 (ix3 h g R)))
      (∑ k : Fin 8448, Ideal.exp (val_main_v12 (F := Ideal) x0 x1 x3 (ix4 h g R k) - val_main_v15 (F := Ideal) x0 x1 x3 (ix3 h g R))) := by
  rw [val_main_v23_apply, val_main_v22_apply, val_main_v21_apply, val_main_v20_apply, v19_at]
  refine congrArg₂ Ideal.div rfl ?_
  refine Eq.trans (congrArg₂ (x' := (0 : EReal)) _ ?_ (Finset.sum_congr rfl fun k _ => ?_)) (zero_add _)
  · rw [val_main_cst_3_apply]; simp [Ideal.ofBits, Ideal.ieee]
  · refine Eq.trans ?_ (v19_at x0 x1 x3 h g R k)
    blk_ext []

theorem v27_at (R : Fin 8192) (h g : Fin 4) (d : Fin 128) : val_main_v27 (F := Ideal) x0 x1 x2 x3 x4 (ix2 R ⟨h.val * 512 + (g.val * 128 + d.val), by omega⟩)
    = ∑ n : Fin 8448, join x4 x2 n ⟨h.val * 128 + d.val, by omega⟩ * val_main_v23 (F := Ideal) x0 x1 x3 (ix4 h g R n) := by
  rw [val_main_v27_apply, val_main_v26_apply, val_main_v25_apply]
  refine Eq.trans ?_ ((val_main_v24_apply x0 x1 x2 x3 x4 (ix4 h d g R)).trans (Finset.sum_congr rfl fun n _ => congrArg₂ _ ?_ ?_))
  · show val_main_v24 (F := Ideal) x0 x1 x2 x3 x4 _ = _
    blk_ext []
  · refine Eq.trans ?_ (v6_at x2 x4 n h d)
    blk_ext []
  · blk_ext []

end Cert.ReferenceIdeal.Read
-- ==== Proof.Flash.lean ====
/-
  The attention kernel computes its reference: softmax attention over the context rows and the sequence.
-/
module
public import proofs.«01_k».proof.Proof.Online
public import proofs.«01_k».proof.Proof.RefRead
public import Idealize.ShloMosaic.Lib.Pipeline.ValueKit
public import proofs.«01_k».proof.Proof.Gen.Pre_finite
public import proofs.«01_k».proof.Defs
public import Idealize.ShloMosaic.Lib.Claim
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The kernel's scale of the queries, and the reference's scale of the scores. -/
theorem f32_one : Ideal.ofBits .f32 0x3F800000#32 = ((1 : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num
theorem f32_128 : Ideal.ofBits .f32 0x43000000#32 = ((128 : ℝ) : EReal) := by
  simp [Ideal.ofBits, Ideal.ieee, -EReal.coe_mul]; norm_num

theorem sqrt_128 : Ideal.sqrt (Ideal.ofBits .f32 0x43000000#32) = ((Real.sqrt 128 : ℝ) : EReal) := by
  rw [f32_128]
  show (if (128 : ℝ) < 0 then (⊥ : EReal) else ((Real.sqrt 128 : ℝ) : EReal)) = _
  exact if_neg (by norm_num)
theorem log_two : Ideal.log (Ideal.ofBits .f32 0x40000000#32) = ((Real.log 2 : ℝ) : EReal) := by
  rw [f32_two]
  show (if (2 : ℝ) ≤ 0 then (⊥ : EReal) else ((Real.log 2 : ℝ) : EReal)) = _
  exact if_neg (by norm_num)

theorem ref_scale : Ideal.div (Ideal.ofBits .f32 0x3F800000#32) (Ideal.sqrt (Ideal.ofBits .f32 0x43000000#32)) = (((Real.sqrt 128)⁻¹ : ℝ) : EReal) := by
  rw [sqrt_128, f32_one, Ideal.div_coe (by positivity), ← EReal.coe_mul]; congr 1; simp
theorem SC_eq : SC = (((Real.sqrt 128)⁻¹ * (Real.log 2)⁻¹ : ℝ) : EReal) := by
  have hl : 0 < Real.log 2 := Real.log_pos (by norm_num)
  rw [SC, sqrt_128, log_two, f32_one, ← EReal.coe_mul, Ideal.div_coe (by positivity), ← EReal.coe_mul]; congr 1
  field_simp

/-- A sum of products of real numbers, the second factors scaled. -/
theorem sum_real {ι : Type} [Fintype ι] (a b : ι → EReal) (u v : ι → ℝ) (ha : ∀ i, a i = (u i : EReal)) (hb : ∀ i, b i = (v i : EReal)) (s : ℝ) :
    ∑ i, a i * (b i * (s : EReal)) = (((∑ i, u i * v i) * s : ℝ) : EReal) := by
  rw [Finset.sum_mul, Cert.Softmax.coe_sum]
  refine Finset.sum_congr rfl fun i _ => ?_
  rw [ha, hb, ← EReal.coe_mul, ← EReal.coe_mul]; congr 1; ring

theorem sum_real' {ι : Type} [Fintype ι] (a b : ι → EReal) (u v : ι → ℝ) (ha : ∀ i, a i = (u i : EReal)) (hb : ∀ i, b i = (v i : EReal)) (s : ℝ) :
    (∑ i, a i * b i) * (s : EReal) = (((∑ i, u i * v i) * s : ℝ) : EReal) := by
  rw [EReal.coe_mul, Cert.Softmax.coe_sum]
  congr 1
  refine Finset.sum_congr rfl fun i _ => ?_
  rw [ha, hb, ← EReal.coe_mul]

variable (m : (ℓ : Loc nD τ sig) → Buf (Elt Ideal) ℓ)

/-- The queries, keys and context keys are real numbers. -/
def Fin3 (c : Dev nD) : Prop := (∀ i, ∃ r : ℝ, aQ m c i = (r : EReal)) ∧ (∀ i : S8192x512.Idx, ∃ r : ℝ, (m ((c : Thread nD τ).loc main_arg1) : FVec Ideal S8192x512 .f32) i = (r : EReal))
    ∧ (∀ i : S256x512.Idx, ∃ r : ℝ, (m ((c : Thread nD τ).loc main_arg3) : FVec Ideal S256x512 .f32) i = (r : EReal))

theorem join_real (x : FVec Ideal S256x512 .f32) (y : FVec Ideal S8192x512 .f32) (hx : ∀ i, ∃ r : ℝ, x i = (r : EReal)) (hy : ∀ i, ∃ r : ℝ, y i = (r : EReal))
    (n : Fin 8448) (b : Fin 512) : ∃ r : ℝ, join x y n b = (r : EReal) := by
  unfold join
  split
  · exact hx _
  · exact hy _

/-- The kernel's score is a real number, and the reference's is `log 2` times it. -/
theorem score_both (c : Dev nD) (hf : Fin3 m c) (h g : Fin 4) (R : Fin 8192) (n : Fin 8448) : ∃ r : ℝ, score m c h g R n = (r : EReal)
    ∧ Cert.ReferenceIdeal.Read.val_main_v12 (F := Ideal) (aQ m c) (m ((c : Thread nD τ).loc main_arg1)) (m ((c : Thread nD τ).loc main_arg3)) (ix4 h g R n)
      = ((r * Real.log 2 : ℝ) : EReal) := by
  obtain ⟨hq, hk, hc⟩ := hf
  choose u hu using fun d : Fin 128 => join_real _ _ hc hk n ⟨h.val * 128 + d.val, by omega⟩
  choose v hv using fun d : Fin 128 => hq (ix2 R ⟨h.val * 512 + (g.val * 128 + d.val), by omega⟩)
  have hl : Real.log 2 ≠ 0 := (Real.log_pos (by norm_num)).ne'
  refine ⟨(∑ d, u d * v d) * ((Real.sqrt 128)⁻¹ * (Real.log 2)⁻¹), ?_, ?_⟩
  · rw [← sum_real _ _ u v hu hv, ← SC_eq]; rfl
  · refine (Cert.ReferenceIdeal.Read.v12_at _ _ _ h g R n).trans ?_
    rw [ref_scale]
    refine (sum_real' _ _ u v hu hv _).trans ?_
    congr 1
    field_simp

/-- The reference's result over the kernel's arguments. -/
def REF (c : Dev nD) : FVec Ideal S8192x2048 .bf16 :=
  Cert.ReferenceIdeal.Read.val_main_v27 (F := Ideal) (aQ m c) (m ((c : Thread nD τ).loc main_arg1)) (m ((c : Thread nD τ).loc main_arg2))
    (m ((c : Thread nD τ).loc main_arg3)) (m ((c : Thread nD τ).loc main_arg4))

theorem point (c : Dev nD) (hf : Fin3 m c) (t : Fin cfg0.N) (h1 : t.val % 11 = 10) (g : Fin 4) (d : Fin 128) (r : Fin 1024) :
    (outsAt0 m c t.val t.isLt).1 (ix2 r ⟨g.val * 128 + d.val, by omega⟩)
      = REF m c (ix2 (row t r) ⟨(hd t).val * 512 + (g.val * 128 + d.val), by have := lt_N t; omega⟩) := by
  have hr : Real m c := fun h g R n => (score_both m c hf h g R n).imp fun _ h => h.1
  have I := inv m c hr g d r t.val t.isLt
  rw [h1] at I
  rw [out_C m c t (by omega) h1 g d r]
  refine Eq.trans ?_ (Cert.ReferenceIdeal.Read.v27_at _ _ _ _ _ (row t r) (hd t) g d).symm
  refine (Cert.Softmax.inv_out (N := 8448) _ _ _ _ _ I
    (fun n => Cert.ReferenceIdeal.Read.val_main_v12 (F := Ideal) (aQ m c) (m ((c : Thread nD τ).loc main_arg1)) (m ((c : Thread nD τ).loc main_arg3)) (ix4 (hd t) g (row t r) n))
    (fun n => ?_) _
    (Cert.ReferenceIdeal.Read.v15_real (aQ m c) (m ((c : Thread nD τ).loc main_arg1)) (m ((c : Thread nD τ).loc main_arg3))
      (fun h g R n => (score_both m c hf h g R n).imp' (fun r => r * Real.log 2) fun _ h => h.2) (hd t) g (row t r))).trans (Finset.sum_congr rfl fun n _ => congrArg₂ _ ?_ ?_)
  · obtain ⟨x, hx, hy⟩ := score_both m c hf (hd t) g (row t r) n
    refine hy.trans ?_
    rw [Xs, dif_pos n.isLt, hx, EReal.toReal_coe]
  · rw [Ws, dif_pos n.isLt]
  · exact (Cert.ReferenceIdeal.Read.v23_at _ _ _ (hd t) g (row t r) n).symm

theorem final (c : Dev nD) (hf : Fin3 m c) : (dats m 0 c).arrAt 3 (cfgs 0).N = REF m c := by
  refine (dats m 0 c).arrAt_eq_of_covers 3 _ (by decide +kernel) fun t hfl y => ?_
  have h1 : t.val % 11 = 10 := (flush0_3 t).mp hfl
  blk_simp
  rw [after0_3]
  idx_vars y
  obtain ⟨g, d, rfl⟩ : ∃ (g : Fin 4) (d : Fin 128), y1 = ⟨g.val * 128 + d.val, by omega⟩ :=
    ⟨⟨y1.val / 128, by omega⟩, ⟨y1.val % 128, by omega⟩, Fin.ext (by show y1.val = y1.val / 128 * 128 + y1.val % 128; omega)⟩
  refine (point m c hf t h1 g d y0).trans ?_
  blk_ext [idx t]

/-- What the precondition says at an index: a number that is neither infinity. -/
theorem real_of_lt (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  have hlt : max x (-x) < ⊤ := by
    rw [ht] at h
    by_contra hn
    simp [Ideal.cmp, hn] at h
  have h1 : x ≠ ⊤ := ne_of_lt (lt_of_le_of_lt (le_max_left _ _) hlt)
  have h2 : x ≠ ⊥ := fun e => by
    rw [e] at hlt
    simp at hlt
  exact ⟨_, (EReal.coe_toReal h1 h2).symm⟩

theorem fin3_of (hpre : Cert.Pre_KernelIdeal_finite m) (c : Dev nD) : Fin3 m c := by
  obtain ⟨hq, hk, hc⟩ := hpre c
  exact ⟨fun i => real_of_lt _ (congrFun hq i), fun i => real_of_lt _ (congrFun hk i), fun i => real_of_lt _ (congrFun hc i)⟩

end Cert.KernelIdeal.Value

namespace Cert.Proof

/-- The attention kernel and its reference leave equal results, queries and keys being real numbers. -/
theorem flash : Cert.algebraic_KernelIdeal_ReferenceIdeal_pre_finite := by
  pair_intro
  · run_from Cert.KernelIdeal.Gen.run_main m g
  · run_from Cert.ReferenceIdeal.Value.run m' g'
    obtain ⟨e0, e1, e2, e3, e4⟩ := hagree c
    refine (Cert.ReferenceIdeal.Read.val_main_v27_eq m' c).trans ?_
    rw [e0, e1, e2, e3, e4]
    exact (Cert.KernelIdeal.Value.final m c (Cert.KernelIdeal.Value.fin3_of m hpre c)).symm

end Cert.Proof
end
-- ==== Proof.AttnIn.lean ====
/- The projection `h @ w_in` of the attention block: the kernel's output array is the reference's matrix product. -/
module

public import proofs.«01_k».proof.Proof.Gen.AttnInIdeal.Value
public import proofs.«01_k».proof.Proof.Gen.AttnInRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnInIdeal.Value

open Cert.AttnInIdeal Cert.AttnInIdeal.Gen

variable (m : (ℓ : Loc nD τ sig) → Buf (Elt Ideal) ℓ)

/-- The reference's product over typed variables. -/
def REF (X : FVec Ideal S8192x4096 .f32) (W : FVec Ideal S4096x7168 .f32) : FVec Ideal S8192x7168 .f32 :=
  Cert.AttnInRefIdeal.Read.val_main_v0 (F := Ideal) X W

theorem idx : ∀ t : Fin cfg0.N, win0_0.index t = ![t.val / 14, 0] ∧ win0_1.index t = ![0, t.val % 14] ∧ win0_2.index t = ![t.val / 14, t.val % 14] :=
  (by decide +kernel : ∀ t : Fin grid0.N, _)

theorem point (c : Dev nD) (t : Fin cfg0.N) (y) : k0_pay1 (F := Ideal) (iblk m c 1 t) (iblk m c 0 t) y
    = REF (m ((c : Thread nD τ).loc main_arg0)) (m ((c : Thread nD τ).loc main_arg1)) (((cfg0.win 2).blk t).view.emb y) := by
  pointwise [k0_pay1, REF, Cert.AttnInRefIdeal.Read.val_main_v0]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.AttnInIdeal.Value

namespace Cert.Proof

/-- The projection and its reference leave equal results. -/
theorem attn_in : Cert.algebraic_AttnInIdeal_AttnInRefIdeal := by
  pair_intro
  · run_from Cert.AttnInIdeal.Gen.run_main m g
  · run_from Cert.AttnInRefIdeal.Value.run m' g'
    exact (Cert.AttnInIdeal.Value.final m c).symm

end Cert.Proof

end
-- ==== Proof.GmlpIn.lean ====
/- The projection `h @ w_in` of the gMLP and its GELU: the kernel's output array is the reference's. -/
module

public import proofs.«01_k».proof.Proof.Gen.GmlpInIdeal.Value
public import proofs.«01_k».proof.Proof.Gen.GmlpInRefIdeal.Read
public import proofs.«01_k».proof.Proof.Gelu
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpInIdeal.Value

open Cert.GmlpInIdeal Cert.GmlpInIdeal.Gen

variable (m : (ℓ : Loc nD τ sig) → Buf (Elt Ideal) ℓ)

/-- The reference's product over typed variables. -/
def REF (X : FVec Ideal S8192x4096 .f32) (W : FVec Ideal S4096x8192 .f32) : FVec Ideal S8192x8192 .bf16 :=
  Cert.GmlpInRefIdeal.Read.val_main_v14 (F := Ideal) X W

theorem idx : ∀ t : Fin cfg0.N, win0_0.index t = ![t.val / 16, 0] ∧ win0_1.index t = ![0, t.val % 16] ∧ win0_2.index t = ![t.val / 16, t.val % 16] :=
  (by decide +kernel : ∀ t : Fin grid0.N, _)

theorem point (c : Dev nD) (t : Fin cfg0.N) (y) : k0_pay1 (F := Ideal) (iblk m c 1 t) (iblk m c 0 t) y
    = REF (m ((c : Thread nD τ).loc main_arg0)) (m ((c : Thread nD τ).loc main_arg1)) (((cfg0.win 2).blk t).view.emb y) := by
  pointwise [k0_pay1, REF, Cert.GmlpInRefIdeal.Read.val_main_v0, Cert.GmlpInRefIdeal.Read.val_main_v1, Cert.GmlpInRefIdeal.Read.val_main_v2, Cert.GmlpInRefIdeal.Read.val_main_v3, Cert.GmlpInRefIdeal.Read.val_main_v4, Cert.GmlpInRefIdeal.Read.val_main_v5, Cert.GmlpInRefIdeal.Read.val_main_v6, Cert.GmlpInRefIdeal.Read.val_main_v7, Cert.GmlpInRefIdeal.Read.val_main_v8, Cert.GmlpInRefIdeal.Read.val_main_v9, Cert.GmlpInRefIdeal.Read.val_main_v10, Cert.GmlpInRefIdeal.Read.val_main_v11, Cert.GmlpInRefIdeal.Read.val_main_v12, Cert.GmlpInRefIdeal.Read.val_main_v13, Cert.GmlpInRefIdeal.Read.val_main_v14, Cert.GmlpInRefIdeal.Read.val_main_cst, Cert.GmlpInRefIdeal.Read.val_main_cst_0, Cert.GmlpInRefIdeal.Read.val_main_cst_1, Cert.GmlpInRefIdeal.Read.val_main_cst_2]
  have h1 : (Named.named κ "gelu_c1" 0xC0135761#32 : Ideal .f32) = (((-6693141 / 4194304) * (Real.log 2)⁻¹ : ℝ) : EReal) := rfl
  have h3 : (Named.named κ "gelu_c3" 0xBDD2D3E8#32 : Ideal .f32) = (((-80338380498831 / 1125899906842624) * (Real.log 2)⁻¹ : ℝ) : EReal) := rfl
  rw [h1, h3]
  refine (Cert.Gelu.gelu_eq _).trans ?_
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GmlpInIdeal.Value

namespace Cert.Proof

/-- The projection and its reference leave equal results. -/
theorem gmlp_in : Cert.algebraic_GmlpInIdeal_GmlpInRefIdeal := by
  pair_intro
  · run_from Cert.GmlpInIdeal.Gen.run_main m g
  · run_from Cert.GmlpInRefIdeal.Value.run m' g'
    exact (Cert.GmlpInIdeal.Value.final m c).symm

end Cert.Proof

end
-- ==== Proof.AttnOut.lean ====
/- The output projection of the attention block, over the two halves it joins: the kernel adds the two products, the reference multiplies the joined rows. -/
module

public import proofs.«01_k».proof.Proof.Gen.AttnOutIdeal.Value
public import proofs.«01_k».proof.Proof.Gen.AttnOutRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnOutIdeal.Value

open Cert.AttnOutIdeal Cert.AttnOutIdeal.Gen

variable (m : (ℓ : Loc nD τ sig) → Buf (Elt Ideal) ℓ)

/-- The reference's product of the joined rows, over typed variables. -/
def REF (X Y : FVec Ideal S8192x2048 .f32) (W : FVec Ideal S4096x4096 .f32) : FVec Ideal S8192x4096 .f32 :=
  Cert.AttnOutRefIdeal.Read.val_main_v1 (F := Ideal) X Y W

theorem idx : ∀ t : Fin cfg0.N, win0_0.index t = ![t.val / 8, 0] ∧ win0_1.index t = ![t.val / 8, 0] ∧ win0_2.index t = ![0, t.val % 8] ∧ win0_3.index t = ![t.val / 8, t.val % 8] :=
  (by decide +kernel : ∀ t : Fin grid0.N, _)

theorem point (c : Dev nD) (t : Fin cfg0.N) (y) : k0_pay1 (F := Ideal) (iblk m c 2 t) (iblk m c 0 t) (iblk m c 1 t) y
    = REF (m ((c : Thread nD τ).loc main_arg0)) (m ((c : Thread nD τ).loc main_arg1)) (m ((c : Thread nD τ).loc main_arg2)) (((cfg0.win 3).blk t).view.emb y) := by
  pointwise [k0_pay1, REF, Cert.AttnOutRefIdeal.Read.val_main_v1, Cert.AttnOutRefIdeal.Read.val_main_v0]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.AttnOutIdeal.Value

namespace Cert.Proof

/-- The projection and its reference leave equal results. -/
theorem attn_out : Cert.algebraic_AttnOutIdeal_AttnOutRefIdeal := by
  pair_intro
  · run_from Cert.AttnOutIdeal.Gen.run_main m g
  · run_from Cert.AttnOutRefIdeal.Value.run m' g'
    exact (Cert.AttnOutIdeal.Value.final m c).symm

end Cert.Proof

end
-- ==== Proof.GmlpOut.lean ====
/- The projection `gated @ w_out` of the gMLP: the kernel's output array is the reference's matrix product. -/
module

public import proofs.«01_k».proof.Proof.Gen.GmlpOutIdeal.Value
public import proofs.«01_k».proof.Proof.Gen.GmlpOutRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpOutIdeal.Value

open Cert.GmlpOutIdeal Cert.GmlpOutIdeal.Gen

variable (m : (ℓ : Loc nD τ sig) → Buf (Elt Ideal) ℓ)

/-- The reference's product over typed variables. -/
def REF (X : FVec Ideal S8192x4096 .f32) (W : FVec Ideal S4096x4096 .f32) : FVec Ideal S8192x4096 .f32 :=
  Cert.GmlpOutRefIdeal.Read.val_main_v0 (F := Ideal) X W

theorem idx : ∀ t : Fin cfg0.N, win0_0.index t = ![t.val / 8, 0] ∧ win0_1.index t = ![0, t.val % 8] ∧ win0_2.index t = ![t.val / 8, t.val % 8] :=
  (by decide +kernel : ∀ t : Fin grid0.N, _)

theorem point (c : Dev nD) (t : Fin cfg0.N) (y) : k0_pay1 (F := Ideal) (iblk m c 1 t) (iblk m c 0 t) y
    = REF (m ((c : Thread nD τ).loc main_arg0)) (m ((c : Thread nD τ).loc main_arg1)) (((cfg0.win 2).blk t).view.emb y) := by
  pointwise [k0_pay1, REF, Cert.GmlpOutRefIdeal.Read.val_main_v0]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GmlpOutIdeal.Value

namespace Cert.Proof

/-- The projection and its reference leave equal results. -/
theorem gmlp_out : Cert.algebraic_GmlpOutIdeal_GmlpOutRefIdeal := by
  pair_intro
  · run_from Cert.GmlpOutIdeal.Gen.run_main m g
  · run_from Cert.GmlpOutRefIdeal.Value.run m' g'
    exact (Cert.GmlpOutIdeal.Value.final m c).symm

end Cert.Proof

end
-- ==== Proof.PeerQ.lean ====
/- The query projection `h @ w_q` of the expert layer: the kernel's output array is the reference's matrix product. -/
module

public import proofs.«01_k».proof.Proof.Gen.PeerQIdeal.Value
public import proofs.«01_k».proof.Proof.Gen.PeerQRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PeerQIdeal.Value

open Cert.PeerQIdeal Cert.PeerQIdeal.Gen

variable (m : (ℓ : Loc nD τ sig) → Buf (Elt Ideal) ℓ)

/-- The reference's product over typed variables. -/
def REF (X : FVec Ideal S8192x4096 .f32) (W : FVec Ideal S4096x2048 .f32) : FVec Ideal S8192x2048 .bf16 :=
  Cert.PeerQRefIdeal.Read.val_main_v1 (F := Ideal) X W

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem point (c : Dev nD) (t : Fin cfg0.N) (y) : k0_pay1 (F := Ideal) (iblk m c 1 t) (iblk m c 0 t) y
    = REF (m ((c : Thread nD τ).loc main_arg0)) (m ((c : Thread nD τ).loc main_arg1)) (((cfg0.win 2).blk t).view.emb y) := by
  pointwise [k0_pay1, REF, Cert.PeerQRefIdeal.Read.val_main_v1, Cert.PeerQRefIdeal.Read.val_main_v0]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.PeerQIdeal.Value

namespace Cert.Proof

/-- The projection and its reference leave equal results. -/
theorem peer_q : Cert.algebraic_PeerQIdeal_PeerQRefIdeal := by
  pair_intro
  · run_from Cert.PeerQIdeal.Gen.run_main m g
  · run_from Cert.PeerQRefIdeal.Value.run m' g'
    exact (Cert.PeerQIdeal.Value.final m c).symm

end Cert.Proof

end
-- ==== Proof.CtxKv.lean ====
/- The keys and values of the context through their columns of `w_in`: the kernel's output array is the reference's matrix product. -/
module

public import proofs.«01_k».proof.Proof.Gen.CtxKvIdeal.Value
public import proofs.«01_k».proof.Proof.Gen.CtxKvRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CtxKvIdeal.Value

open Cert.CtxKvIdeal Cert.CtxKvIdeal.Gen

variable (m : (ℓ : Loc nD τ sig) → Buf (Elt Ideal) ℓ)

/-- The reference's product over typed variables. -/
def REF (X : FVec Ideal S256x4096 .f32) (W : FVec Ideal S4096x7168 .f32) : FVec Ideal S256x1024 .f32 :=
  Cert.CtxKvRefIdeal.Read.val_main_v1 (F := Ideal) X W

theorem idx : ∀ t : Fin cfg0.N, win0_0.index t = ![0, 0] ∧ win0_1.index t = ![0, t.val + 4] ∧ win0_2.index t = ![0, t.val] :=
  (by decide +kernel : ∀ t : Fin grid0.N, _)

theorem point (c : Dev nD) (t : Fin cfg0.N) (y) : k0_pay1 (F := Ideal) (iblk m c 1 t) (iblk m c 0 t) y
    = REF (m ((c : Thread nD τ).loc main_arg0)) (m ((c : Thread nD τ).loc main_arg1)) (((cfg0.win 2).blk t).view.emb y) := by
  pointwise [k0_pay1, REF, Cert.CtxKvRefIdeal.Read.val_main_v0, Cert.CtxKvRefIdeal.Read.val_main_v1]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.CtxKvIdeal.Value

namespace Cert.Proof

/-- The projection and its reference leave equal results. -/
theorem ctx_kv : Cert.algebraic_CtxKvIdeal_CtxKvRefIdeal := by
  pair_intro
  · run_from Cert.CtxKvIdeal.Gen.run_main m g
  · run_from Cert.CtxKvRefIdeal.Value.run m' g'
    exact (Cert.CtxKvIdeal.Value.final m c).symm

end Cert.Proof

end
-- ==== Proof.ResLn.lean ====
/- The scaled residual sum and its layer norm: the kernel's output array is the reference's. -/
module

public import proofs.«01_k».proof.Proof.Gen.ResLnIdeal.Value
public import proofs.«01_k».proof.Proof.Gen.ResLnRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ResLnIdeal.Value

open Cert.ResLnIdeal Cert.ResLnIdeal.Gen

variable (m : (ℓ : Loc nD τ sig) → Buf (Elt Ideal) ℓ)

/-- The reference over typed variables. -/
def REF (x y : FVec Ideal S8192x4096 .f32) (gate : FVec Ideal S1x4096 .f32) (g b : FVec Ideal S4096 .f32) : FVec Ideal S8192x4096 .f32 :=
  Cert.ResLnRefIdeal.Read.val_main_v28 (F := Ideal) x y gate g b

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_7.index t = ![t.val, 0] :=
  (by decide +kernel : ∀ t : Fin grid0.N, _)

theorem point (c : Dev nD) (t : Fin cfg0.N) (y) : k0_pay1 (F := Ideal) (iblk m c 0 t) (iblk m c 2 t) (iblk m c 1 t) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay1, REF, Cert.ResLnRefIdeal.Read.val_main_v0, Cert.ResLnRefIdeal.Read.val_main_v1, Cert.ResLnRefIdeal.Read.val_main_v2, Cert.ResLnRefIdeal.Read.val_main_v3, Cert.ResLnRefIdeal.Read.val_main_v4, Cert.ResLnRefIdeal.Read.val_main_v5, Cert.ResLnRefIdeal.Read.val_main_v6, Cert.ResLnRefIdeal.Read.val_main_v7, Cert.ResLnRefIdeal.Read.val_main_v8, Cert.ResLnRefIdeal.Read.val_main_v9, Cert.ResLnRefIdeal.Read.val_main_v10, Cert.ResLnRefIdeal.Read.val_main_v11, Cert.ResLnRefIdeal.Read.val_main_v12, Cert.ResLnRefIdeal.Read.val_main_v13, Cert.ResLnRefIdeal.Read.val_main_v14, Cert.ResLnRefIdeal.Read.val_main_v15, Cert.ResLnRefIdeal.Read.val_main_v16, Cert.ResLnRefIdeal.Read.val_main_v17, Cert.ResLnRefIdeal.Read.val_main_v18, Cert.ResLnRefIdeal.Read.val_main_v19, Cert.ResLnRefIdeal.Read.val_main_v20, Cert.ResLnRefIdeal.Read.val_main_v21, Cert.ResLnRefIdeal.Read.val_main_v22, Cert.ResLnRefIdeal.Read.val_main_v23, Cert.ResLnRefIdeal.Read.val_main_v24, Cert.ResLnRefIdeal.Read.val_main_v25, Cert.ResLnRefIdeal.Read.val_main_v26, Cert.ResLnRefIdeal.Read.val_main_v27, Cert.ResLnRefIdeal.Read.val_main_v28, Cert.ResLnRefIdeal.Read.val_main_cst, Cert.ResLnRefIdeal.Read.val_main_cst_0, Cert.ResLnRefIdeal.Read.val_main_cst_1, Cert.ResLnRefIdeal.Read.val_main_cst_2, Cert.ResLnRefIdeal.Read.val_main_cst_3, Cert.ResLnRefIdeal.Read.val_main_cst_4]
  blk_point [iblk, V, idx t]

theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point m c t y

end Cert.ResLnIdeal.Value

namespace Cert.Proof

/-- The last call and its reference leave equal results. -/
theorem resln : Cert.algebraic_ResLnIdeal_ResLnRefIdeal := by
  pair_intro
  · run_from Cert.ResLnIdeal.Gen.run_main m g
  · run_from Cert.ResLnRefIdeal.Value.run m' g'
    exact (Cert.ResLnIdeal.Value.final m c).symm

end Cert.Proof

end
-- ==== Proof.Sgu.lean ====
/- The spatial gating of the gMLP: each block of the kernel holds two chunks of 128 positions and each of its 32 stores one head of one
   chunk; the output array is the reference's. -/
module

public import proofs.«01_k».proof.Proof.Gen.SguIdeal.Value
public import proofs.«01_k».proof.Proof.Gen.SguRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen

variable (m : (ℓ : Loc nD τ sig) → Buf (Elt Ideal) ℓ)

/-- The mean of a row of the block. -/
def lnMean (v : Vec Ideal S256x4096 .bf16) (r : Fin 256) : EReal :=
  Ideal.div (∑ x : Fin 4096, (v (ix2 r x) : EReal)) (Ideal.ofBits .f32 1166016512#32)

/-- The layer norm of a row of the block. -/
def lnRow (v : Vec Ideal S256x4096 .bf16) (g b : Vec Ideal S1x4096 .f32) (r : Fin 256) (k : Fin 4096) : EReal :=
  (v (ix2 r k) - lnMean v r)
    * Ideal.rsqrt (Ideal.div (∑ x : Fin 4096, ((v (ix2 r x) : EReal) - lnMean v r) * (v (ix2 r x) - lnMean v r)) (Ideal.ofBits .f32 1166016512#32)
        + Ideal.ofBits .f32 897988541#32)
    * g (ix2 0 k) + b (ix2 0 k)

/-- What a block of the output holds: the gate times the mixed rows of the chunk. -/
def mixed (u v : Vec Ideal S256x4096 .bf16) (g b : Vec Ideal S1x4096 .f32) (w : Vec Ideal S16x128x128 .f32) (s : Vec Ideal S16x128x256 .f32)
    (y : S256x4096.Idx) : EReal :=
  u y * ((∑ k : Fin 128, w (ix3 ⟨(y 1).val / 256, by have h : (y 1).val < 4096 := (y 1).isLt; omega⟩ ⟨(y 0).val % 128, by omega⟩ k)
        * lnRow v g b ⟨(y 0).val / 128 * 128 + k.val, by have h : (y 0).val < 256 := (y 0).isLt; omega⟩ (y 1))
    + s (ix3 ⟨(y 1).val / 256, by have h : (y 1).val < 4096 := (y 1).isLt; omega⟩ ⟨(y 0).val % 128, by omega⟩ ⟨(y 1).val % 256, by omega⟩))

theorem lnRow_congr (v g b) {r r' : Fin 256} {k k' : Fin 4096} (hr : r.val = r'.val) (hk : k.val = k'.val) : lnRow v g b r k = lnRow v g b r' k' := by
  rw [Fin.ext hr, Fin.ext hk]

/-- The spelt-out layer norm of one row is that of another row of the same number. -/
theorem lnRow_of (v : Vec Ideal S256x4096 .bf16) (g b : Vec Ideal S1x4096 .f32) {r r' : Fin 256} {k k' : Fin 4096} (hr : r.val = r'.val) (hk : k.val = k'.val) :
    (v (ix2 r k) - Ideal.div (∑ x : Fin 4096, (v (ix2 r x) : EReal)) (Ideal.ofBits .f32 1166016512#32))
    * Ideal.rsqrt (Ideal.div (∑ x : Fin 4096, ((v (ix2 r x) : EReal) - Ideal.div (∑ x : Fin 4096, (v (ix2 r x) : EReal)) (Ideal.ofBits .f32 1166016512#32))
          * (v (ix2 r x) - Ideal.div (∑ x : Fin 4096, (v (ix2 r x) : EReal)) (Ideal.ofBits .f32 1166016512#32))) (Ideal.ofBits .f32 1166016512#32)
        + Ideal.ofBits .f32 897988541#32)
    * g (ix2 0 k) + b (ix2 0 k) = lnRow v g b r' k' := lnRow_congr v g b hr hk

set_option maxHeartbeats 4000000 in
theorem out_at (x0 x1 x2 x3 x4 x5) (y : S256x4096.Idx) : out0_6 (F := Ideal) x0 x1 x2 x3 x4 x5 y = mixed x0 x1 x2 x3 x4 x5 y := by
  unfold out0_6
  canon_tiles x h
  all_goals
    open_payloads
    pointwise
    refine congrArg₂ (· * ·) ?_ (congrArg₂ (· + ·) (Finset.sum_congr rfl fun k _ => congrArg₂ (· * ·) ?_ (lnRow_of _ _ _ ?_ ?_)) ?_)
    · blk_ext
    · blk_ext
    · dsimp only; omega
    · dsimp only; omega
    · blk_ext

/-- The reference over typed variables. -/
def REF (z : FVec Ideal S8192x8192 .bf16) (g b : FVec Ideal S4096 .f32) (w : FVec Ideal S16x128x128 .f32) (s : FVec Ideal S16x128 .f32) : FVec Ideal S8192x4096 .bf16 :=
  Cert.SguRefIdeal.Read.val_main_v35 (F := Ideal) z g b w s

theorem idx : ∀ t : Fin cfg0.N, win0_0.index t = ![t.val, 0] ∧ win0_1.index t = ![t.val, 1] ∧ win0_2.index t = ![0, 0] ∧ win0_3.index t = ![0, 0]
    ∧ win0_4.index t = ![0, 0, 0] ∧ win0_5.index t = ![0, 0, 0] ∧ win0_6.index t = ![t.val, 0] :=
  (by decide +kernel : ∀ t : Fin grid0.N, _)

theorem ln_point (c : Dev nD) (t : Fin cfg0.N) (r : Fin 256) (k C : Fin 4096) (R : Fin 8192) (hR : R.val = t.val * 256 + r.val) (hC : C.val = k.val) :
    lnRow (iblk m c 1 t) (iblk m c 2 t) (iblk m c 3 t) r k
      = Cert.SguRefIdeal.Read.val_main_v25 (F := Ideal) (m ((c : Thread nD τ).loc main_arg0)) (m ((c : Thread nD τ).loc main_arg1)) (m ((c : Thread nD τ).loc main_arg2)) (ix2 R C) := by
  have hv : ∀ x : Fin 4096, iblk m c 1 t (ix2 r x) = (m ((c : Thread nD τ).loc main_arg0)) (ix2 R ⟨4096 + x.val, by omega⟩) := by
    intro x
    blk_point [iblk, V, idx t]
  have hg : iblk m c 2 t (ix2 0 k) = (m ((c : Thread nD τ).loc main_arg1)) (ix1 C) := by
    blk_point [iblk, V, idx t]
  have hb : iblk m c 3 t (ix2 0 k) = (m ((c : Thread nD τ).loc main_arg2)) (ix1 C) := by
    blk_point [iblk, V, idx t]
  obtain rfl : C = k := Fin.ext hC
  pointwise [Cert.SguRefIdeal.Read.val_main_v1, Cert.SguRefIdeal.Read.val_main_v2, Cert.SguRefIdeal.Read.val_main_v3, Cert.SguRefIdeal.Read.val_main_v4, Cert.SguRefIdeal.Read.val_main_v5, Cert.SguRefIdeal.Read.val_main_v6, Cert.SguRefIdeal.Read.val_main_v7, Cert.SguRefIdeal.Read.val_main_v8, Cert.SguRefIdeal.Read.val_main_v9, Cert.SguRefIdeal.Read.val_main_v10, Cert.SguRefIdeal.Read.val_main_v11, Cert.SguRefIdeal.Read.val_main_v12, Cert.SguRefIdeal.Read.val_main_v13, Cert.SguRefIdeal.Read.val_main_v14, Cert.SguRefIdeal.Read.val_main_v15, Cert.SguRefIdeal.Read.val_main_v16, Cert.SguRefIdeal.Read.val_main_v17, Cert.SguRefIdeal.Read.val_main_v18, Cert.SguRefIdeal.Read.val_main_v19, Cert.SguRefIdeal.Read.val_main_v20, Cert.SguRefIdeal.Read.val_main_v21, Cert.SguRefIdeal.Read.val_main_v22, Cert.SguRefIdeal.Read.val_main_v23, Cert.SguRefIdeal.Read.val_main_v24, Cert.SguRefIdeal.Read.val_main_v25, Cert.SguRefIdeal.Read.val_main_cst, Cert.SguRefIdeal.Read.val_main_cst_0, Cert.SguRefIdeal.Read.val_main_cst_1, Cert.SguRefIdeal.Read.val_main_cst_2, Cert.SguRefIdeal.Read.val_main_cst_3]
  unfold lnRow lnMean
  simp only [hv, hg, hb]

/-- The bias' block holds, for a head and a position, the bias of the two in every column. -/
theorem bias_point (c : Dev nD) (t : Fin cfg0.N) (h : Fin 16) (q : Fin 128) (d : Fin 256) :
    iblk m c 5 t (ix3 h q d) = m ((c : Thread nD τ).loc main_arg4) (ix2 h q) := by
  have e : iblk m c 5 t (ix3 h q d) = V m c main_v2 (ix3 h q d) := by
    blk_simp [iblk]
    refine congrArg _ ?_
    blk_ext [idx t]
  rw [e]
  entry_read
  pointwise

set_option maxHeartbeats 1000000 in
theorem point (c : Dev nD) (t : Fin cfg0.N) (y) : mixed (iblk m c 0 t) (iblk m c 1 t) (iblk m c 2 t) (iblk m c 3 t) (iblk m c 4 t) (iblk m c 5 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [mixed, REF, Cert.SguRefIdeal.Read.val_main_v0, Cert.SguRefIdeal.Read.val_main_v26, Cert.SguRefIdeal.Read.val_main_v27, Cert.SguRefIdeal.Read.val_main_v28, Cert.SguRefIdeal.Read.val_main_v29, Cert.SguRefIdeal.Read.val_main_v30, Cert.SguRefIdeal.Read.val_main_v31, Cert.SguRefIdeal.Read.val_main_v32, Cert.SguRefIdeal.Read.val_main_v33, Cert.SguRefIdeal.Read.val_main_v34, Cert.SguRefIdeal.Read.val_main_v35]
  refine congrArg₂ (· * ·) ?_ (congrArg₂ (· + ·) (Finset.sum_congr rfl fun x _ => (mul_comm _ _).trans (congrArg₂ (· * ·) ?_ ?_)) ?_)
  · blk_point [iblk, V, idx t]
  · refine ln_point m c t _ _ _ _ ?_ ?_
    · blk_simp [idx t]
      dsimp only
      omega
    · blk_simp [idx t]
  · blk_point [iblk, V, idx t]
  · refine (bias_point m c t _ _ _).trans ?_
    blk_ext [idx t]

theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact (out_at _ _ _ _ _ _ y).trans (point m c t y)

end Cert.SguIdeal.Value

namespace Cert.Proof

/-- The gating and its reference leave equal results. -/
theorem sgu : Cert.algebraic_SguIdeal_SguRefIdeal := by
  pair_intro
  · run_from Cert.SguIdeal.Gen.run_main m g
  · run_from Cert.SguRefIdeal.Value.run m' g'
    exact (Cert.SguIdeal.Value.final m c).symm

end Cert.Proof

end
-- ==== Proof.Modulate.lean ====
/- The modulation of the rows by a scale and a shift: the kernel's output array is the reference's. -/
module

public import proofs.«01_k».proof.Proof.Gen.ModulateIdeal.Value
public import proofs.«01_k».proof.Proof.Gen.ModulateRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ModulateIdeal.Value

open Cert.ModulateIdeal Cert.ModulateIdeal.Gen

variable (m : (ℓ : Loc nD τ sig) → Buf (Elt Ideal) ℓ)

/-- The reference over typed variables. -/
def REF (x : FVec Ideal S8192x4096 .f32) (shift scale : FVec Ideal S1x4096 .f32) : FVec Ideal S8192x4096 .bf16 :=
  Cert.ModulateRefIdeal.Read.val_main_v6 (F := Ideal) x shift scale

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem point (c : Dev nD) (t : Fin cfg0.N) (y) : k0_pay1 (F := Ideal) (iblk m c 0 t) (iblk m c 2 t) (iblk m c 1 t) y
    = REF (m ((c : Thread nD τ).loc main_arg0)) (m ((c : Thread nD τ).loc main_arg1)) (m ((c : Thread nD τ).loc main_arg2)) (((cfg0.win 3).blk t).view.emb y) := by
  pointwise [k0_pay1, REF, Cert.ModulateRefIdeal.Read.val_main_v0, Cert.ModulateRefIdeal.Read.val_main_v1, Cert.ModulateRefIdeal.Read.val_main_v2, Cert.ModulateRefIdeal.Read.val_main_v3, Cert.ModulateRefIdeal.Read.val_main_v4, Cert.ModulateRefIdeal.Read.val_main_v5, Cert.ModulateRefIdeal.Read.val_main_v6, Cert.ModulateRefIdeal.Read.val_main_cst]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.ModulateIdeal.Value

namespace Cert.Proof

/-- The modulation and its reference leave equal results. -/
theorem modulate : Cert.algebraic_ModulateIdeal_ModulateRefIdeal := by
  pair_intro
  · run_from Cert.ModulateIdeal.Gen.run_main m g
  · run_from Cert.ModulateRefIdeal.Value.run m' g'
    exact (Cert.ModulateIdeal.Value.final m c).symm

end Cert.Proof

end
-- ==== Proof.Rope.lean ====
/- The norm and the rotation of one head's row of 128 lanes, as mathematics: the root mean square norm with a gain, and the rotation of each
   lane with its partner, the lane 32 places on or back in the same half. -/
module

public import Idealize.ShloMosaic.Lib.Pointwise

@[expose] public section

noncomputable section

open Idealize.ShloMosaic

namespace Cert.Proof.Rope

/-- A row divided by its root mean square, times the gain. -/
def rms (a : Fin 128 → EReal) (g : Fin 128 → EReal) (d : Fin 128) : EReal :=
  a d * Ideal.rsqrt (Ideal.div (∑ j : Fin 128, a j * a j) (Ideal.ofBits .f32 1124073472#32) + Ideal.ofBits .f32 897988541#32) * g d

/-- The lane that a lane is rotated with. -/
def part (d : Fin 128) : Fin 128 := ⟨if d.val / 32 % 2 = 0 then d.val + 32 else d.val - 32, by split <;> omega⟩

/-- The normed row, each lane times its cosine plus its partner times the signed sine. -/
def rot (a g C S : Fin 128 → EReal) (d : Fin 128) : EReal := rms a g d * C d + rms a g (part d) * S d

theorem rms_congr {a a' g g' : Fin 128 → EReal} (ha : ∀ j, a j = a' j) (hg : ∀ j, g j = g' j) (d : Fin 128) : rms a g d = rms a' g' d := by
  rw [funext ha, funext hg]

theorem rot_congr {a a' g g' C C' S S' : Fin 128 → EReal} (ha : ∀ j, a j = a' j) (hg : ∀ j, g j = g' j) (hC : ∀ j, C j = C' j) (hS : ∀ j, S j = S' j)
    {d d' : Fin 128} (hd : d.val = d'.val) : rot a g C S d = rot a' g' C' S' d' := by
  rw [funext ha, funext hg, funext hC, funext hS, Fin.ext hd]

/-- With cosines one and sines zero the rotation is the identity. -/
theorem rot_one (a g : Fin 128 → EReal) (d : Fin 128) : rot a g (fun _ => 1) (fun _ => 0) d = rms a g d := by
  simp only [rot, mul_one, mul_zero, add_zero]

/-- The bit of the lane's number that tells the halves apart. -/
theorem half_bit : ∀ d : Fin 128, IntOp.cmpi .eq (IntOp.andi (BitVec.ofNat 32 d.val) 32#32) 0#32 = if d.val / 32 % 2 = 0 then 1#1 else 0#1 := by
  decide +kernel

/-- The select between the two rolled rows takes the partner's entry. -/
theorem select_part (f : Fin 128 → EReal) (d : Fin 128) (h : (d.val + 128 - 96) % 128 < 128) (h' : (d.val + 128 - 32) % 128 < 128) :
    Scalar.select (IntOp.cmpi .eq (IntOp.andi (BitVec.ofNat 32 d.val) 32#32) 0#32) (f ⟨(d.val + 128 - 96) % 128, h⟩) (f ⟨(d.val + 128 - 32) % 128, h'⟩)
      = f (part d) := by
  rw [half_bit]
  have hd := d.isLt
  by_cases hp : d.val / 32 % 2 = 0
  · rw [if_pos hp]
    exact congrArg f (Fin.ext (by simp only [part, if_pos hp]; omega))
  · rw [if_neg hp]
    exact congrArg f (Fin.ext (by simp only [part, if_neg hp]; omega))

/-- The exponent's power of a lane: 10000 to the minus k/32. -/
def freq (k : ℕ) : EReal :=
  Ideal.pow (Ideal.ofBits .f32 1176256512#32) (Ideal.div (-(FloatOps.sitofp (F := Ideal) .f32 (BitVec.ofNat 32 k) : EReal)) (Ideal.ofBits .f32 1107296256#32))

/-- The angle of a position and a lane: the first half of the lanes turns with the row of the position in the 64-wide grid, the second with its column. -/
def ang (n d : ℕ) : EReal :=
  (FloatOps.sitofp (F := Ideal) .f32 (BitVec.ofNat 32 (if d < 64 then n / 64 else n % 64)) : EReal) * freq (d % 32)

/-- The cosines. -/
def cosT (n : ℕ) (d : Fin 128) : EReal := Ideal.cos (ang n d.val)

/-- The sines, negative on the first half of each pair. -/
def sinT (n : ℕ) (d : Fin 128) : EReal := if d.val / 32 % 2 = 0 then -Ideal.sin (ang n d.val) else Ideal.sin (ang n d.val)

/-- The cosines by the halves of the lanes. -/
theorem cosT_half (n : ℕ) (d : Fin 128) : cosT n d = Ideal.cos (if d.val < 64 then ang n (d.val % 32) else ang n (64 + d.val % 32)) := by
  rw [cosT, ang]
  by_cases h : d.val < 64
  · rw [if_pos h, if_pos h, ang, if_pos (by omega), Nat.mod_mod]
  · rw [if_neg h, if_neg h, ang, if_neg (by omega), show (64 + d.val % 32) % 32 = d.val % 32 by omega]

/-- The signed sines by the halves of the lanes. -/
theorem sinT_half (n : ℕ) (d : Fin 128) : sinT n d = if d.val / 32 % 2 = 0 then -Ideal.sin (if d.val < 64 then ang n (d.val % 32) else ang n (64 + d.val % 32))
    else Ideal.sin (if d.val < 64 then ang n (d.val % 32) else ang n (64 + d.val % 32)) := by
  have e : ang n d.val = if d.val < 64 then ang n (d.val % 32) else ang n (64 + d.val % 32) := by
    rw [ang]
    by_cases h : d.val < 64
    · rw [if_pos h, if_pos h, ang, if_pos (by omega), Nat.mod_mod]
    · rw [if_neg h, if_neg h, ang, if_neg (by omega), show (64 + d.val % 32) % 32 = d.val % 32 by omega]
  rw [sinT, e]

/-- The cosines by the quarters that the host puts side by side. -/
theorem cos_quarters (R Q : Fin 32 → EReal) (n : ℕ) (d : Fin 128)
    (hR : ∀ k, R k = (FloatOps.sitofp (F := Ideal) .f32 (BitVec.ofNat 32 (n / 64)) : EReal) * freq k.val)
    (hQ : ∀ k, Q k = (FloatOps.sitofp (F := Ideal) .f32 (BitVec.ofNat 32 (n % 64)) : EReal) * freq k.val) :
    (if h1 : d.val < 32 then Ideal.cos (R ⟨d.val, h1⟩) else if h2 : d.val - 32 < 32 then Ideal.cos (R ⟨d.val - 32, h2⟩)
      else if h3 : d.val - 32 - 32 < 32 then Ideal.cos (Q ⟨d.val - 32 - 32, h3⟩) else Ideal.cos (Q ⟨d.val - 32 - 32 - 32, by have := d.isLt; omega⟩)) = cosT n d := by
  have hd := d.isLt
  rw [cosT, ang]
  by_cases h1 : d.val < 32
  · rw [dif_pos h1, hR, if_pos (by omega), Nat.mod_eq_of_lt h1]
  rw [dif_neg h1]
  by_cases h2 : d.val - 32 < 32
  · rw [dif_pos h2, hR, if_pos (by omega), show d.val % 32 = d.val - 32 by omega]
  rw [dif_neg h2]
  by_cases h3 : d.val - 32 - 32 < 32
  · rw [dif_pos h3, hQ, if_neg (by omega), show d.val % 32 = d.val - 32 - 32 by omega]
  · rw [dif_neg h3, hQ, if_neg (by omega), show d.val % 32 = d.val - 32 - 32 - 32 by omega]

/-- The signed sines by the quarters that the host puts side by side. -/
theorem sin_quarters (R Q : Fin 32 → EReal) (n : ℕ) (d : Fin 128)
    (hR : ∀ k, R k = (FloatOps.sitofp (F := Ideal) .f32 (BitVec.ofNat 32 (n / 64)) : EReal) * freq k.val)
    (hQ : ∀ k, Q k = (FloatOps.sitofp (F := Ideal) .f32 (BitVec.ofNat 32 (n % 64)) : EReal) * freq k.val) :
    (if h1 : d.val < 32 then -Ideal.sin (R ⟨d.val, h1⟩) else if h2 : d.val - 32 < 32 then Ideal.sin (R ⟨d.val - 32, h2⟩)
      else if h3 : d.val - 32 - 32 < 32 then -Ideal.sin (Q ⟨d.val - 32 - 32, h3⟩) else Ideal.sin (Q ⟨d.val - 32 - 32 - 32, by have := d.isLt; omega⟩)) = sinT n d := by
  have hd := d.isLt
  rw [sinT, ang]
  by_cases h1 : d.val < 32
  · rw [dif_pos h1, hR, if_pos (show d.val / 32 % 2 = 0 by omega), if_pos (by omega), Nat.mod_eq_of_lt h1]
  rw [dif_neg h1]
  by_cases h2 : d.val - 32 < 32
  · rw [dif_pos h2, hR, if_neg (show ¬ d.val / 32 % 2 = 0 by omega), if_pos (by omega), show d.val % 32 = d.val - 32 by omega]
  rw [dif_neg h2]
  by_cases h3 : d.val - 32 - 32 < 32
  · rw [dif_pos h3, hQ, if_pos (show d.val / 32 % 2 = 0 by omega), if_neg (by omega), show d.val % 32 = d.val - 32 - 32 by omega]
  · rw [dif_neg h3, hQ, if_neg (show ¬ d.val / 32 % 2 = 0 by omega), if_neg (by omega), show d.val % 32 = d.val - 32 - 32 - 32 by omega]

/-- The quotient that the host's floor division computes of a position and 64. -/
theorem row_int : ∀ n : Fin 8192, Scalar.select
      (IntOp.andi
        (IntOp.cmpi .ne
          (if BitVec.ofNat 32 n.val = 0 then (0 : BitVec 32) else if (BitVec.ofNat 32 n.val).msb = true then -1 else 1)
          (if 64#32 = 0 then (0 : BitVec 32) else if (64#32).msb = true then -1 else 1))
        (IntOp.cmpi .ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

/-- The remainder that the host computes of a position and 64. -/
theorem col_int : ∀ n : Fin 8192, Scalar.select
      (IntOp.andi
        (IntOp.cmpi .ne
          (IntOp.cmpi .slt
            (IntOp.remsi ArithUnit.host (BitVec.ofNat 32 n.val)
              (Scalar.select (IntOp.cmpi .eq 64#32 0#32) 1#32 64#32))
            0#32)
          (IntOp.cmpi .slt (Scalar.select (IntOp.cmpi .eq 64#32 0#32) 1#32 64#32) 0#32))
        (IntOp.cmpi .ne
          (IntOp.remsi ArithUnit.host (BitVec.ofNat 32 n.val)
            (Scalar.select (IntOp.cmpi .eq 64#32 0#32) 1#32 64#32))
          0#32))
      (IntOp.addi
        (IntOp.remsi ArithUnit.host (BitVec.ofNat 32 n.val)
          (Scalar.select (IntOp.cmpi .eq 64#32 0#32) 1#32 64#32))
        (Scalar.select (IntOp.cmpi .eq 64#32 0#32) 1#32 64#32))
      (IntOp.remsi ArithUnit.host (BitVec.ofNat 32 n.val)
        (Scalar.select (IntOp.cmpi .eq 64#32 0#32) 1#32 64#32)) = BitVec.ofNat 32 (n.val % 64) := by decide +kernel

/-- The rotation as the reference writes it, quarter by quarter: f the normed row, P and Q the angles of the halves. -/
theorem quarters (f : Fin 128 → EReal) (P Q : Fin 32 → EReal) (C S : Fin 128 → EReal) (d : Fin 128)
    (hC : ∀ d : Fin 128, C d = Ideal.cos (if d.val < 64 then P ⟨d.val % 32, Nat.mod_lt _ (by decide)⟩ else Q ⟨d.val % 32, Nat.mod_lt _ (by decide)⟩))
    (hS : ∀ d : Fin 128, S d = if d.val / 32 % 2 = 0 then -Ideal.sin (if d.val < 64 then P ⟨d.val % 32, Nat.mod_lt _ (by decide)⟩ else Q ⟨d.val % 32, Nat.mod_lt _ (by decide)⟩)
      else Ideal.sin (if d.val < 64 then P ⟨d.val % 32, Nat.mod_lt _ (by decide)⟩ else Q ⟨d.val % 32, Nat.mod_lt _ (by decide)⟩)) :
    (if h1 : d.val < 64 then
      if h2 : d.val < 32 then
        f d * Ideal.cos (P ⟨d.val, h2⟩) - f ⟨32 + d.val, by omega⟩ * Ideal.sin (P ⟨d.val, h2⟩)
      else
        f ⟨d.val - 32, by omega⟩ * Ideal.sin (P ⟨d.val - 32, by omega⟩) + f ⟨32 + (d.val - 32), by omega⟩ * Ideal.cos (P ⟨d.val - 32, by omega⟩)
    else
      if h2 : d.val - 64 < 32 then
        f ⟨64 + (d.val - 64), by omega⟩ * Ideal.cos (Q ⟨d.val - 64, h2⟩) - f ⟨64 + (32 + (d.val - 64)), by omega⟩ * Ideal.sin (Q ⟨d.val - 64, h2⟩)
      else
        f ⟨64 + (d.val - 64 - 32), by omega⟩ * Ideal.sin (Q ⟨d.val - 64 - 32, by omega⟩)
          + f ⟨64 + (32 + (d.val - 64 - 32)), by omega⟩ * Ideal.cos (Q ⟨d.val - 64 - 32, by omega⟩))
      = f d * C d + f (part d) * S d := by
  have hd := d.isLt
  have hp : ∀ (k : ℕ) (hk : k < 128), k = (if d.val / 32 % 2 = 0 then d.val + 32 else d.val - 32) → f ⟨k, hk⟩ = f (part d) := fun k hk e => congrArg f (Fin.ext e)
  have hf : ∀ (k : ℕ) (hk : k < 128), k = d.val → f ⟨k, hk⟩ = f d := fun k hk e => congrArg f (Fin.ext e)
  have hP : ∀ (k : ℕ) (hk : k < 32), k = d.val % 32 → P ⟨k, hk⟩ = P ⟨d.val % 32, Nat.mod_lt _ (by decide)⟩ := fun k hk e => congrArg P (Fin.ext e)
  have hQ : ∀ (k : ℕ) (hk : k < 32), k = d.val % 32 → Q ⟨k, hk⟩ = Q ⟨d.val % 32, Nat.mod_lt _ (by decide)⟩ := fun k hk e => congrArg Q (Fin.ext e)
  rw [hC, hS]
  by_cases h1 : d.val < 64
  · rw [dif_pos h1]
    simp only [if_pos h1]
    by_cases h2 : d.val < 32
    · have h3 : d.val / 32 % 2 = 0 := by omega
      simp only [dif_pos h2, if_pos h3]
      rw [hp (32 + d.val) (by omega) (by rw [if_pos h3]; omega), hP _ _ (by omega), mul_neg, sub_eq_add_neg]
    · have h3 : ¬ d.val / 32 % 2 = 0 := by omega
      simp only [dif_neg h2, if_neg h3]
      rw [hp (d.val - 32) (by omega) (by rw [if_neg h3]), hf (32 + (d.val - 32)) _ (by omega), hP _ _ (by omega), add_comm]
  · rw [dif_neg h1]
    simp only [if_neg h1]
    by_cases h2 : d.val - 64 < 32
    · have h3 : d.val / 32 % 2 = 0 := by omega
      simp only [dif_pos h2, if_pos h3]
      rw [hp (64 + (32 + (d.val - 64))) _ (by rw [if_pos h3]; omega), hf (64 + (d.val - 64)) _ (by omega), hQ _ _ (by omega), mul_neg, sub_eq_add_neg]
    · have h3 : ¬ d.val / 32 % 2 = 0 := by omega
      simp only [dif_neg h2, if_neg h3]
      rw [hp (64 + (d.val - 64 - 32)) _ (by rw [if_neg h3]; omega), hf (64 + (32 + (d.val - 64 - 32))) _ (by omega), hQ _ _ (by omega), add_comm]

end Cert.Proof.Rope

end
-- ==== Proof.QkPrep.lean ====
/- The norm and the rotary embedding of the queries and keys: each of the 20 stores of a block holds one head; the output array is the
   reference's. -/
module

public import proofs.«01_k».proof.Proof.Gen.QkPrepIdeal.Value
public import proofs.«01_k».proof.Proof.Gen.QkPrepRefIdeal.Read
public import proofs.«01_k».proof.Proof.Rope
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat Window)
open Cert.Proof.Rope

namespace Cert.QkPrepIdeal.Value

open Cert.QkPrepIdeal Cert.QkPrepIdeal.Gen

variable (m : (ℓ : Loc nD τ sig) → Buf (Elt Ideal) ℓ)

/-! ## The block -/

/-- What a block of the output holds: each head normed with its gain and rotated. -/
def heads (X : Vec Ideal S256x2560 .f32) (G : Vec Ideal S20x1x128 .f32) (C S : Vec Ideal S256x128 .f32) (y : S256x2560.Idx) : EReal :=
  rot (fun j => X (ix2 (y 0) ⟨(y 1).val / 128 * 128 + j.val, by have h : (y 1).val < 2560 := (y 1).isLt; omega⟩))
    (fun j => G (ix3 ⟨(y 1).val / 128, by have h : (y 1).val < 2560 := (y 1).isLt; omega⟩ 0 j)) (fun j => C (ix2 (y 0) j)) (fun j => S (ix2 (y 0) j))
    ⟨(y 1).val % 128, by omega⟩

/-- The stored piece of one head is the head's part of the block. -/
theorem piece_of (X : Vec Ideal S256x2560 .f32) (G : Vec Ideal S20x1x128 .f32) (C S : Vec Ideal S256x128 .f32) (k : ℕ) (h : Fin 20) (hk : k = h.val * 128)
    (x : S256x128.Idx) (y : S256x2560.Idx) (h0 : (y 0).val = (x 0).val) (h1 : (y 1).val = k + (x 1).val)
    (b0 : ∀ j : Fin 128, k + j.val < 2560) (b1 : k + ((x 1).val + 128 - 96) % 128 < 2560) (b2 : k + ((x 1).val + 128 - 32) % 128 < 2560)
    (b3 : ((x 1).val + 128 - 96) % 128 < 128) (b4 : ((x 1).val + 128 - 32) % 128 < 128) :
    X (ix2 (x 0) ⟨k + (x 1).val, b0 (x 1)⟩) * Ideal.rsqrt (Ideal.div (∑ j : Fin 128, X (ix2 (x 0) ⟨k + j.val, b0 j⟩) * X (ix2 (x 0) ⟨k + j.val, b0 j⟩))
          (Ideal.ofBits .f32 1124073472#32) + Ideal.ofBits .f32 897988541#32) * G (ix3 h 0 (x 1)) * C x
      + Scalar.select (IntOp.cmpi .eq (IntOp.andi (BitVec.ofNat 32 (x 1).val) 32#32) 0#32)
          (X (ix2 (x 0) ⟨k + ((x 1).val + 128 - 96) % 128, b1⟩) * Ideal.rsqrt (Ideal.div (∑ j : Fin 128, X (ix2 (x 0) ⟨k + j.val, b0 j⟩) * X (ix2 (x 0) ⟨k + j.val, b0 j⟩))
            (Ideal.ofBits .f32 1124073472#32) + Ideal.ofBits .f32 897988541#32) * G (ix3 h 0 ⟨((x 1).val + 128 - 96) % 128, b3⟩))
          (X (ix2 (x 0) ⟨k + ((x 1).val + 128 - 32) % 128, b2⟩) * Ideal.rsqrt (Ideal.div (∑ j : Fin 128, X (ix2 (x 0) ⟨k + j.val, b0 j⟩) * X (ix2 (x 0) ⟨k + j.val, b0 j⟩))
            (Ideal.ofBits .f32 1124073472#32) + Ideal.ofBits .f32 897988541#32) * G (ix3 h 0 ⟨((x 1).val + 128 - 32) % 128, b4⟩)) * S x
      = heads X G C S y := by
  have hl : (x 1).val < 128 := (x 1).isLt
  refine (congrArg₂ (· + ·) rfl (congrArg₂ (· * ·) (select_part (rms (fun j => X (ix2 (x 0) ⟨k + j.val, b0 j⟩)) (fun j => G (ix3 h 0 j))) (x 1) b3 b4) rfl)).trans ?_
  have hx : x = ix2 (x 0) (x 1) := by blk_ext
  refine Eq.trans (b := rot (fun j => X (ix2 (x 0) ⟨k + j.val, b0 j⟩)) (fun j => G (ix3 h 0 j)) (fun j => C (ix2 (x 0) j)) (fun j => S (ix2 (x 0) j)) (x 1)) ?_ ?_
  · conv_lhs => rw [hx]
    rfl
  · refine rot_congr (fun j => congrArg X ?_) (fun j => congrArg G ?_) (fun j => congrArg C ?_) (fun j => congrArg S ?_) ?_
    · exact congrArg₂ ix2 (Fin.ext h0.symm) (Fin.ext (by show k + j.val = (y 1).val / 128 * 128 + j.val; omega))
    · refine congrArg (fun i => ix3 i 0 j) (Fin.ext ?_)
      show h.val = (y 1).val / 128
      omega
    · exact congrArg (fun i => ix2 i j) (Fin.ext h0.symm)
    · exact congrArg (fun i => ix2 i j) (Fin.ext h0.symm)
    · show (x 1).val = (y 1).val % 128
      omega

set_option maxHeartbeats 4000000 in
theorem out_at (c : Dev nD) (t : Fin cfg0.N) (y : S256x2560.Idx) : outsAt0 m c t y = heads (X0_0 m c t) (iblk m c 1 t) (iblk m c 2 t) (iblk m c 3 t) y := by
  unfold outsAt0
  generalize X0_0 m c t = X
  generalize iblk m c 1 t = G
  generalize iblk m c 2 t = C
  generalize iblk m c 3 t = S
  frame_out
  canon_tiles x h
  all_goals
    open_payloads
    pointwise
    first
      | exact piece_of X G C S _ _ (by decide) x y h0 h1 (by omega) (by omega) (by omega) (by omega) (by omega)
      | (have e := piece_of X G C S 0 0 (by decide) x y h0 (by omega) (by omega) (by omega) (by omega) (by omega) (by omega)
         simp only [Nat.zero_add] at e
         exact e)

/-! ## The tables that the host prepares -/

/-- The contents in front of the last piece of the host code. -/
abbrev pre (c : Dev nD) := StableHlo.after (List.flatten [hostOps0, hostOps0_1, hostOps0_2, hostOps0_3]) (StableHlo.launchContents m c)

set_option maxHeartbeats 4000000 in
theorem pre_row (c : Dev nD) (n : Fin 8192) (k : Fin 32) : pre m c (Proc.tc.devRef main_v13) (ix2 n k)
    = (FloatOps.sitofp (F := Ideal) .f32 (BitVec.ofNat 32 (n.val / 64)) : EReal) * freq k.val := by
  unfold pre
  simp only [List.flatten_cons, List.flatten_nil, List.append_nil, List.cons_append, List.nil_append]
  entry_read
  simp only [StableHlo.TRef.ofBuf, StableHlo.TRef.toBuf, cast_eq]
  pointwise [row_int, col_int]
  rfl

set_option maxHeartbeats 4000000 in
theorem pre_col (c : Dev nD) (n : Fin 8192) : pre m c (Proc.tc.devRef main_v14) (ix1 n) = BitVec.ofNat 32 (n.val % 64) := by
  unfold pre
  simp only [List.flatten_cons, List.flatten_nil, List.append_nil, List.cons_append, List.nil_append]
  entry_read
  simp only [StableHlo.TRef.ofBuf, StableHlo.TRef.toBuf, cast_eq]
  pointwise [row_int, col_int]

set_option maxHeartbeats 4000000 in
theorem pre_freq (c : Dev nD) (k : Fin 32) : pre m c (Proc.tc.devRef main_v5) (ix1 k) = freq k.val := by
  unfold pre
  simp only [List.flatten_cons, List.flatten_nil, List.append_nil, List.cons_append, List.nil_append]
  entry_read
  pointwise
  rfl

set_option maxHeartbeats 4000000 in
theorem cos_read (c : Dev nD) (n : Fin 8192) (d : Fin 128) : V m c main_v23 (ix2 n d) = cosT n.val d := by
  have e : V m c main_v23 = StableHlo.after hostOps0_4 (pre m c) (Proc.tc.devRef main_v23) := rfl
  have hr := pre_row m c
  have hc := pre_col m c
  have hf := pre_freq m c
  rw [e]
  generalize pre m c = W at hr hc hf ⊢
  simp only [StableHlo.after_cons, StableHlo.after_nil]
  after_results_simp
  dsimp only [Matrix.cons_val_zero, Matrix.cons_val_one, Matrix.cons_val]
  after_results_simp
  pointwise
  exact cos_quarters (fun k => W (Proc.tc.devRef main_v13) (ix2 n k))
    (fun k => (FloatOps.sitofp (F := Ideal) .f32 (W (Proc.tc.devRef main_v14) (ix1 n)) : EReal) * W (Proc.tc.devRef main_v5) (ix1 k)) n.val d
    (fun k => hr n k) (fun k => by rw [hc, hf])

set_option maxHeartbeats 4000000 in
theorem sin_read (c : Dev nD) (n : Fin 8192) (d : Fin 128) : V m c main_v30 (ix2 n d) = sinT n.val d := by
  have e : V m c main_v30 = StableHlo.after hostOps0_4 (pre m c) (Proc.tc.devRef main_v30) := rfl
  have hr := pre_row m c
  have hc := pre_col m c
  have hf := pre_freq m c
  rw [e]
  generalize pre m c = W at hr hc hf ⊢
  simp only [StableHlo.after_cons, StableHlo.after_nil]
  after_results_simp
  dsimp only [Matrix.cons_val_zero, Matrix.cons_val_one, Matrix.cons_val]
  after_results_simp
  pointwise
  exact sin_quarters (fun k => W (Proc.tc.devRef main_v13) (ix2 n k))
    (fun k => (FloatOps.sitofp (F := Ideal) .f32 (W (Proc.tc.devRef main_v14) (ix1 n)) : EReal) * W (Proc.tc.devRef main_v5) (ix1 k)) n.val d
    (fun k => hr n k) (fun k => by rw [hc, hf])

set_option maxHeartbeats 4000000 in
theorem gain_read (c : Dev nD) (h : Fin 20) (d : Fin 128) : V m c main_v34 (ix3 h 0 d)
    = if h.val < 16 then m ((c : Thread nD τ).loc main_arg1) (ix1 d) else m ((c : Thread nD τ).loc main_arg2) (ix1 d) := by
  unfold V
  simp only [List.flatten_cons, List.flatten_nil, List.append_nil, List.cons_append, List.nil_append]
  entry_read
  pointwise
  rfl

/-! ## The reference -/

set_option maxHeartbeats 4000000 in
theorem ref_q_norm (x : FVec Ideal Cert.QkPrepRefIdeal.S8192x7168 .f32) (g : FVec Ideal Cert.QkPrepRefIdeal.S128 .f32) (n : Fin 8192) (h : Fin 16) (d : Fin 128) :
    Cert.QkPrepRefIdeal.Read.val_main_v23 (F := Ideal) x g (ix3 n h d)
      = rms (fun j => x (ix2 n ⟨h.val * 128 + j.val, by omega⟩)) (fun j => g (ix1 j)) d := by
  pointwise [Cert.QkPrepRefIdeal.Read.val_main_v7, Cert.QkPrepRefIdeal.Read.val_main_v8, Cert.QkPrepRefIdeal.Read.val_main_v9, Cert.QkPrepRefIdeal.Read.val_main_v10, Cert.QkPrepRefIdeal.Read.val_main_v11, Cert.QkPrepRefIdeal.Read.val_main_v11, Cert.QkPrepRefIdeal.Read.val_main_v12, Cert.QkPrepRefIdeal.Read.val_main_v13, Cert.QkPrepRefIdeal.Read.val_main_v14, Cert.QkPrepRefIdeal.Read.val_main_v15, Cert.QkPrepRefIdeal.Read.val_main_v16, Cert.QkPrepRefIdeal.Read.val_main_v17, Cert.QkPrepRefIdeal.Read.val_main_v18, Cert.QkPrepRefIdeal.Read.val_main_v19, Cert.QkPrepRefIdeal.Read.val_main_v20, Cert.QkPrepRefIdeal.Read.val_main_v21, Cert.QkPrepRefIdeal.Read.val_main_v22, Cert.QkPrepRefIdeal.Read.val_main_v23, Cert.QkPrepRefIdeal.Read.val_main_cst, Cert.QkPrepRefIdeal.Read.val_main_cst_0, Cert.QkPrepRefIdeal.Read.val_main_cst_1, Cert.QkPrepRefIdeal.Read.val_main_cst_2, Cert.QkPrepRefIdeal.Read.val_main_cst_3, Cert.QkPrepRefIdeal.Read.val_main_cst_4, Cert.QkPrepRefIdeal.Read.val_main_cst_5, Cert.QkPrepRefIdeal.Read.val_main_cst_6]
  rfl

set_option maxHeartbeats 4000000 in
theorem ref_q_row (n : Fin 8192) (k : Fin 32) : Cert.QkPrepRefIdeal.Read.val_main_v37 (F := Ideal) (ix2 n k) = ang n.val k.val := by
  pointwise [Cert.QkPrepRefIdeal.Read.val_main_v32, Cert.QkPrepRefIdeal.Read.val_main_v33, Cert.QkPrepRefIdeal.Read.val_main_v34, Cert.QkPrepRefIdeal.Read.val_main_v35, Cert.QkPrepRefIdeal.Read.val_main_v36, Cert.QkPrepRefIdeal.Read.val_main_v37, Cert.QkPrepRefIdeal.Read.val_main_v24, Cert.QkPrepRefIdeal.Read.val_main_v25, Cert.QkPrepRefIdeal.Read.val_main_v26, Cert.QkPrepRefIdeal.Read.val_main_v27, Cert.QkPrepRefIdeal.Read.val_main_v28, Cert.QkPrepRefIdeal.Read.val_main_v29, Cert.QkPrepRefIdeal.Read.val_main_v0, Cert.QkPrepRefIdeal.Read.val_main_v1, Cert.QkPrepRefIdeal.Read.val_main_v2, Cert.QkPrepRefIdeal.Read.val_main_v3, Cert.QkPrepRefIdeal.Read.val_main_v4, Cert.QkPrepRefIdeal.Read.val_main_v5, Cert.QkPrepRefIdeal.Read.val_main_v6, Cert.QkPrepRefIdeal.Read.val_main_cst_2, Cert.QkPrepRefIdeal.Read.val_main_cst_3, row_int, col_int]
  rw [ang, if_pos (by omega), Nat.mod_eq_of_lt k.isLt]
  rfl

set_option maxHeartbeats 4000000 in
theorem ref_q_col (n : Fin 8192) (k : Fin 32) : Cert.QkPrepRefIdeal.Read.val_main_v60 (F := Ideal) (ix2 n k) = ang n.val (64 + k.val) := by
  pointwise [Cert.QkPrepRefIdeal.Read.val_main_v55, Cert.QkPrepRefIdeal.Read.val_main_v56, Cert.QkPrepRefIdeal.Read.val_main_v57, Cert.QkPrepRefIdeal.Read.val_main_v58, Cert.QkPrepRefIdeal.Read.val_main_v59, Cert.QkPrepRefIdeal.Read.val_main_v60, Cert.QkPrepRefIdeal.Read.val_main_v24, Cert.QkPrepRefIdeal.Read.val_main_v25, Cert.QkPrepRefIdeal.Read.val_main_v26, Cert.QkPrepRefIdeal.Read.val_main_v27, Cert.QkPrepRefIdeal.Read.val_main_v28, Cert.QkPrepRefIdeal.Read.val_main_v29, Cert.QkPrepRefIdeal.Read.val_main_v0, Cert.QkPrepRefIdeal.Read.val_main_v1, Cert.QkPrepRefIdeal.Read.val_main_v2, Cert.QkPrepRefIdeal.Read.val_main_v3, Cert.QkPrepRefIdeal.Read.val_main_v4, Cert.QkPrepRefIdeal.Read.val_main_v5, Cert.QkPrepRefIdeal.Read.val_main_v6, Cert.QkPrepRefIdeal.Read.val_main_cst_2, Cert.QkPrepRefIdeal.Read.val_main_cst_3, row_int, col_int]
  rw [ang, if_neg (by omega), show (64 + k.val) % 32 = k.val by omega]
  rfl

set_option maxHeartbeats 4000000 in
theorem ref_q_rot (x : FVec Ideal Cert.QkPrepRefIdeal.S8192x7168 .f32) (g : FVec Ideal Cert.QkPrepRefIdeal.S128 .f32) (n : Fin 8192) (h : Fin 16) (d : Fin 128) :
    Cert.QkPrepRefIdeal.Read.val_main_v78 (F := Ideal) x g (ix3 n h d)
      = Cert.QkPrepRefIdeal.Read.val_main_v23 (F := Ideal) x g (ix3 n h d) * cosT n.val d + Cert.QkPrepRefIdeal.Read.val_main_v23 (F := Ideal) x g (ix3 n h (part d)) * sinT n.val d := by
  refine Eq.trans ?_ (quarters (fun d => Cert.QkPrepRefIdeal.Read.val_main_v23 (F := Ideal) x g (ix3 n h d)) (fun k => Cert.QkPrepRefIdeal.Read.val_main_v37 (F := Ideal) (ix2 n k)) (fun k => Cert.QkPrepRefIdeal.Read.val_main_v60 (F := Ideal) (ix2 n k)) (cosT n.val) (sinT n.val) d ?_ ?_)
  · pointwise [Cert.QkPrepRefIdeal.Read.val_main_v78, Cert.QkPrepRefIdeal.Read.val_main_v77, Cert.QkPrepRefIdeal.Read.val_main_v54, Cert.QkPrepRefIdeal.Read.val_main_v53, Cert.QkPrepRefIdeal.Read.val_main_v48, Cert.QkPrepRefIdeal.Read.val_main_v76, Cert.QkPrepRefIdeal.Read.val_main_v71, Cert.QkPrepRefIdeal.Read.val_main_v45, Cert.QkPrepRefIdeal.Read.val_main_v47, Cert.QkPrepRefIdeal.Read.val_main_v50, Cert.QkPrepRefIdeal.Read.val_main_v52, Cert.QkPrepRefIdeal.Read.val_main_v49, Cert.QkPrepRefIdeal.Read.val_main_v51, Cert.QkPrepRefIdeal.Read.val_main_v46, Cert.QkPrepRefIdeal.Read.val_main_v44, Cert.QkPrepRefIdeal.Read.val_main_v39, Cert.QkPrepRefIdeal.Read.val_main_v41, Cert.QkPrepRefIdeal.Read.val_main_v42, Cert.QkPrepRefIdeal.Read.val_main_v43, Cert.QkPrepRefIdeal.Read.val_main_v30, Cert.QkPrepRefIdeal.Read.val_main_v31, Cert.QkPrepRefIdeal.Read.val_main_v62, Cert.QkPrepRefIdeal.Read.val_main_v64, Cert.QkPrepRefIdeal.Read.val_main_v65, Cert.QkPrepRefIdeal.Read.val_main_v66, Cert.QkPrepRefIdeal.Read.val_main_v67, Cert.QkPrepRefIdeal.Read.val_main_v68, Cert.QkPrepRefIdeal.Read.val_main_v69, Cert.QkPrepRefIdeal.Read.val_main_v70, Cert.QkPrepRefIdeal.Read.val_main_v72, Cert.QkPrepRefIdeal.Read.val_main_v73, Cert.QkPrepRefIdeal.Read.val_main_v74, Cert.QkPrepRefIdeal.Read.val_main_v75, Cert.QkPrepRefIdeal.Read.val_main_v38, Cert.QkPrepRefIdeal.Read.val_main_v40, Cert.QkPrepRefIdeal.Read.val_main_v61, Cert.QkPrepRefIdeal.Read.val_main_v63]
  · intro d
    rw [ref_q_row, ref_q_col]
    exact cosT_half n.val d
  · intro d
    rw [ref_q_row, ref_q_col]
    exact sinT_half n.val d

set_option maxHeartbeats 4000000 in
theorem ref_k_norm (x : FVec Ideal Cert.QkPrepRefIdeal.S8192x7168 .f32) (g : FVec Ideal Cert.QkPrepRefIdeal.S128 .f32) (n : Fin 8192) (h : Fin 4) (d : Fin 128) :
    Cert.QkPrepRefIdeal.Read.val_main_v91 (F := Ideal) x g (ix3 n h d)
      = rms (fun j => x (ix2 n ⟨2048 + (h.val * 128 + j.val), by omega⟩)) (fun j => g (ix1 j)) d := by
  pointwise [Cert.QkPrepRefIdeal.Read.val_main_v7, Cert.QkPrepRefIdeal.Read.val_main_v8, Cert.QkPrepRefIdeal.Read.val_main_v9, Cert.QkPrepRefIdeal.Read.val_main_v10, Cert.QkPrepRefIdeal.Read.val_main_v11, Cert.QkPrepRefIdeal.Read.val_main_v79, Cert.QkPrepRefIdeal.Read.val_main_v80, Cert.QkPrepRefIdeal.Read.val_main_v81, Cert.QkPrepRefIdeal.Read.val_main_v82, Cert.QkPrepRefIdeal.Read.val_main_v83, Cert.QkPrepRefIdeal.Read.val_main_v84, Cert.QkPrepRefIdeal.Read.val_main_v85, Cert.QkPrepRefIdeal.Read.val_main_v86, Cert.QkPrepRefIdeal.Read.val_main_v87, Cert.QkPrepRefIdeal.Read.val_main_v88, Cert.QkPrepRefIdeal.Read.val_main_v89, Cert.QkPrepRefIdeal.Read.val_main_v90, Cert.QkPrepRefIdeal.Read.val_main_v91, Cert.QkPrepRefIdeal.Read.val_main_cst, Cert.QkPrepRefIdeal.Read.val_main_cst_0, Cert.QkPrepRefIdeal.Read.val_main_cst_1, Cert.QkPrepRefIdeal.Read.val_main_cst_2, Cert.QkPrepRefIdeal.Read.val_main_cst_3, Cert.QkPrepRefIdeal.Read.val_main_cst_4, Cert.QkPrepRefIdeal.Read.val_main_cst_5, Cert.QkPrepRefIdeal.Read.val_main_cst_6]
  rfl

set_option maxHeartbeats 4000000 in
theorem ref_k_row (n : Fin 8192) (k : Fin 32) : Cert.QkPrepRefIdeal.Read.val_main_v105 (F := Ideal) (ix2 n k) = ang n.val k.val := by
  pointwise [Cert.QkPrepRefIdeal.Read.val_main_v100, Cert.QkPrepRefIdeal.Read.val_main_v101, Cert.QkPrepRefIdeal.Read.val_main_v102, Cert.QkPrepRefIdeal.Read.val_main_v103, Cert.QkPrepRefIdeal.Read.val_main_v104, Cert.QkPrepRefIdeal.Read.val_main_v105, Cert.QkPrepRefIdeal.Read.val_main_v92, Cert.QkPrepRefIdeal.Read.val_main_v93, Cert.QkPrepRefIdeal.Read.val_main_v94, Cert.QkPrepRefIdeal.Read.val_main_v95, Cert.QkPrepRefIdeal.Read.val_main_v96, Cert.QkPrepRefIdeal.Read.val_main_v97, Cert.QkPrepRefIdeal.Read.val_main_v0, Cert.QkPrepRefIdeal.Read.val_main_v1, Cert.QkPrepRefIdeal.Read.val_main_v2, Cert.QkPrepRefIdeal.Read.val_main_v3, Cert.QkPrepRefIdeal.Read.val_main_v4, Cert.QkPrepRefIdeal.Read.val_main_v5, Cert.QkPrepRefIdeal.Read.val_main_v6, Cert.QkPrepRefIdeal.Read.val_main_cst_7, Cert.QkPrepRefIdeal.Read.val_main_cst_8, row_int, col_int]
  rw [ang, if_pos (by omega), Nat.mod_eq_of_lt k.isLt]
  rfl

set_option maxHeartbeats 4000000 in
theorem ref_k_col (n : Fin 8192) (k : Fin 32) : Cert.QkPrepRefIdeal.Read.val_main_v128 (F := Ideal) (ix2 n k) = ang n.val (64 + k.val) := by
  pointwise [Cert.QkPrepRefIdeal.Read.val_main_v123, Cert.QkPrepRefIdeal.Read.val_main_v124, Cert.QkPrepRefIdeal.Read.val_main_v125, Cert.QkPrepRefIdeal.Read.val_main_v126, Cert.QkPrepRefIdeal.Read.val_main_v127, Cert.QkPrepRefIdeal.Read.val_main_v128, Cert.QkPrepRefIdeal.Read.val_main_v92, Cert.QkPrepRefIdeal.Read.val_main_v93, Cert.QkPrepRefIdeal.Read.val_main_v94, Cert.QkPrepRefIdeal.Read.val_main_v95, Cert.QkPrepRefIdeal.Read.val_main_v96, Cert.QkPrepRefIdeal.Read.val_main_v97, Cert.QkPrepRefIdeal.Read.val_main_v0, Cert.QkPrepRefIdeal.Read.val_main_v1, Cert.QkPrepRefIdeal.Read.val_main_v2, Cert.QkPrepRefIdeal.Read.val_main_v3, Cert.QkPrepRefIdeal.Read.val_main_v4, Cert.QkPrepRefIdeal.Read.val_main_v5, Cert.QkPrepRefIdeal.Read.val_main_v6, Cert.QkPrepRefIdeal.Read.val_main_cst_7, Cert.QkPrepRefIdeal.Read.val_main_cst_8, row_int, col_int]
  rw [ang, if_neg (by omega), show (64 + k.val) % 32 = k.val by omega]
  rfl

set_option maxHeartbeats 4000000 in
theorem ref_k_rot (x : FVec Ideal Cert.QkPrepRefIdeal.S8192x7168 .f32) (g : FVec Ideal Cert.QkPrepRefIdeal.S128 .f32) (n : Fin 8192) (h : Fin 4) (d : Fin 128) :
    Cert.QkPrepRefIdeal.Read.val_main_v146 (F := Ideal) x g (ix3 n h d)
      = Cert.QkPrepRefIdeal.Read.val_main_v91 (F := Ideal) x g (ix3 n h d) * cosT n.val d + Cert.QkPrepRefIdeal.Read.val_main_v91 (F := Ideal) x g (ix3 n h (part d)) * sinT n.val d := by
  refine Eq.trans ?_ (quarters (fun d => Cert.QkPrepRefIdeal.Read.val_main_v91 (F := Ideal) x g (ix3 n h d)) (fun k => Cert.QkPrepRefIdeal.Read.val_main_v105 (F := Ideal) (ix2 n k)) (fun k => Cert.QkPrepRefIdeal.Read.val_main_v128 (F := Ideal) (ix2 n k)) (cosT n.val) (sinT n.val) d ?_ ?_)
  · pointwise [Cert.QkPrepRefIdeal.Read.val_main_v146, Cert.QkPrepRefIdeal.Read.val_main_v145, Cert.QkPrepRefIdeal.Read.val_main_v122, Cert.QkPrepRefIdeal.Read.val_main_v121, Cert.QkPrepRefIdeal.Read.val_main_v116, Cert.QkPrepRefIdeal.Read.val_main_v144, Cert.QkPrepRefIdeal.Read.val_main_v139, Cert.QkPrepRefIdeal.Read.val_main_v113, Cert.QkPrepRefIdeal.Read.val_main_v115, Cert.QkPrepRefIdeal.Read.val_main_v118, Cert.QkPrepRefIdeal.Read.val_main_v120, Cert.QkPrepRefIdeal.Read.val_main_v117, Cert.QkPrepRefIdeal.Read.val_main_v119, Cert.QkPrepRefIdeal.Read.val_main_v114, Cert.QkPrepRefIdeal.Read.val_main_v112, Cert.QkPrepRefIdeal.Read.val_main_v107, Cert.QkPrepRefIdeal.Read.val_main_v109, Cert.QkPrepRefIdeal.Read.val_main_v110, Cert.QkPrepRefIdeal.Read.val_main_v111, Cert.QkPrepRefIdeal.Read.val_main_v98, Cert.QkPrepRefIdeal.Read.val_main_v99, Cert.QkPrepRefIdeal.Read.val_main_v130, Cert.QkPrepRefIdeal.Read.val_main_v132, Cert.QkPrepRefIdeal.Read.val_main_v133, Cert.QkPrepRefIdeal.Read.val_main_v134, Cert.QkPrepRefIdeal.Read.val_main_v135, Cert.QkPrepRefIdeal.Read.val_main_v136, Cert.QkPrepRefIdeal.Read.val_main_v137, Cert.QkPrepRefIdeal.Read.val_main_v138, Cert.QkPrepRefIdeal.Read.val_main_v140, Cert.QkPrepRefIdeal.Read.val_main_v141, Cert.QkPrepRefIdeal.Read.val_main_v142, Cert.QkPrepRefIdeal.Read.val_main_v143, Cert.QkPrepRefIdeal.Read.val_main_v106, Cert.QkPrepRefIdeal.Read.val_main_v108, Cert.QkPrepRefIdeal.Read.val_main_v129, Cert.QkPrepRefIdeal.Read.val_main_v131]
  · intro d
    rw [ref_k_row, ref_k_col]
    exact cosT_half n.val d
  · intro d
    rw [ref_k_row, ref_k_col]
    exact sinT_half n.val d

/-- The reference over typed variables. -/
def REF (x : FVec Ideal Cert.QkPrepRefIdeal.S8192x7168 .f32) (g1 g2 : FVec Ideal Cert.QkPrepRefIdeal.S128 .f32) : FVec Ideal Cert.QkPrepRefIdeal.S8192x2560 .bf16 :=
  Cert.QkPrepRefIdeal.Read.val_main_v150 (F := Ideal) x g1 g2

set_option maxHeartbeats 4000000 in
/-- An entry of the reference: the entry's head normed and rotated. -/
theorem ref_at (x : FVec Ideal Cert.QkPrepRefIdeal.S8192x7168 .f32) (g1 g2 : FVec Ideal Cert.QkPrepRefIdeal.S128 .f32) (n : Fin 8192) (e : Fin 2560) :
    REF x g1 g2 (ix2 n e) = rot (fun j => x (ix2 n ⟨e.val / 128 * 128 + j.val, by omega⟩)) (fun j => if e.val / 128 < 16 then g1 (ix1 j) else g2 (ix1 j))
      (cosT n.val) (sinT n.val) ⟨e.val % 128, Nat.mod_lt _ (by decide)⟩ := by
  pointwise [REF, Cert.QkPrepRefIdeal.Read.val_main_v150, Cert.QkPrepRefIdeal.Read.val_main_v149, Cert.QkPrepRefIdeal.Read.val_main_v148, Cert.QkPrepRefIdeal.Read.val_main_v147]
  by_cases h : e.val < 2048
  · rw [dif_pos h, ref_q_rot, ref_q_norm, ref_q_norm]
    exact rot_congr (fun j => rfl) (fun j => (if_pos (by omega)).symm) (fun j => rfl) (fun j => rfl) rfl
  · rw [dif_neg h, ref_k_rot, ref_k_norm, ref_k_norm]
    refine rot_congr (fun j => congrArg (fun i => x (ix2 n i)) (Fin.ext ?_)) (fun j => (if_neg (by omega)).symm) (fun j => rfl) (fun j => rfl) ?_
    · simp only; omega
    · simp only; omega

/-! ## The whole output -/

theorem idx : ∀ t : Fin cfg0.N, win0_0.index t = ![t.val, 0] ∧ win0_1.index t = ![0, 0, 0] ∧ win0_2.index t = ![t.val, 0] ∧ win0_3.index t = ![t.val, 0]
    ∧ win0_4.index t = ![t.val, 0] :=
  (by decide +kernel : ∀ t : Fin grid0.N, _)

theorem whole : ∀ (t : Fin cfg0.N) (a : Fin 2), (cfg0.win 0).xsize (cfg0.grid.coords t) a = S256x2560.size a :=
  (by decide +kernel : ∀ (t : Fin grid0.N) (a : Fin 2), win0_0.xsize (grid0.coords t) a = S256x2560.size a)

set_option maxHeartbeats 4000000 in
theorem point (c : Dev nD) (t : Fin cfg0.N) (y) : heads (X0_0 m c t) (iblk m c 1 t) (iblk m c 2 t) (iblk m c 3 t) y
    = REF (m ((c : Thread nD τ).loc main_arg0)) (m ((c : Thread nD τ).loc main_arg1)) (m ((c : Thread nD τ).loc main_arg2)) (((cfg0.win 4).blk t).view.emb y) := by
  have hN : t.val < 32 := lt_of_lt_of_eq t.isLt (by decide +kernel)
  have h0 : (y 0).val < 256 := (y 0).isLt
  have h1 : (y 1).val < 2560 := (y 1).isLt
  have ey : ((cfg0.win 4).blk t).view.emb y = ix2 ⟨t.val * 256 + (y 0).val, by omega⟩ ⟨(y 1).val, h1⟩ := by
    blk_point [idx t]
  rw [ey, ref_at]
  unfold heads
  refine rot_congr (fun j => ?_) (fun j => ?_) (fun j => ?_) (fun j => ?_) rfl
  · unfold X0_0 Window.fill
    refine (dif_pos (((cfg0.win 0).moved_iff _ _).mpr fun a => ?_)).trans ?_
    · rw [whole t a]
      exact (ix2 (y 0) ⟨(y 1).val / 128 * 128 + j.val, by omega⟩ a : Fin _).isLt
    · blk_point [iblk, idx t]
  · show iblk m c 1 t (ix3 ⟨(y 1).val / 128, by omega⟩ 0 j) = _
    refine Eq.trans ?_ (gain_read m c ⟨(y 1).val / 128, by omega⟩ j)
    blk_point [iblk, idx t]
  · refine Eq.trans ?_ (cos_read m c ⟨t.val * 256 + (y 0).val, by omega⟩ j)
    blk_point [iblk, idx t]
  · refine Eq.trans ?_ (sin_read m c ⟨t.val * 256 + (y 0).val, by omega⟩ j)
    blk_point [iblk, idx t]

theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact (out_at m c t y).trans (point m c t y)

end Cert.QkPrepIdeal.Value

namespace Cert.Proof

/-- The norm and rotary call and its reference leave equal results. -/
theorem qk_prep : Cert.algebraic_QkPrepIdeal_QkPrepRefIdeal := by
  pair_intro
  · run_from Cert.QkPrepIdeal.Value.run_blocks m g
  · run_from Cert.QkPrepRefIdeal.Value.run m' g'
    rw [Cert.QkPrepRefIdeal.Read.val_main_v150_eq, (hagree c).1, (hagree c).2.1, (hagree c).2.2]
    exact (Cert.QkPrepIdeal.Value.final m c).symm

end Cert.Proof

end
-- ==== Proof.KcPrep.lean ====
/- The norm of the context keys, the call of the rotary kernel with cosines one and sines zero: each of the 4 stores of a block holds one head; the output array is the
   reference's. -/
module

public import proofs.«01_k».proof.Proof.Gen.KcPrepIdeal.Value
public import proofs.«01_k».proof.Proof.Gen.KcPrepRefIdeal.Read
public import proofs.«01_k».proof.Proof.Rope
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat Window)
open Cert.Proof.Rope

namespace Cert.KcPrepIdeal.Value

open Cert.KcPrepIdeal Cert.KcPrepIdeal.Gen

variable (m : (ℓ : Loc nD τ sig) → Buf (Elt Ideal) ℓ)

/-! ## The block -/

/-- What a block of the output holds: each head normed with its gain and rotated. -/
def heads (X : Vec Ideal S256x512 .f32) (G : Vec Ideal S4x1x128 .f32) (C S : Vec Ideal S256x128 .f32) (y : S256x512.Idx) : EReal :=
  rot (fun j => X (ix2 (y 0) ⟨(y 1).val / 128 * 128 + j.val, by have h : (y 1).val < 512 := (y 1).isLt; omega⟩))
    (fun j => G (ix3 ⟨(y 1).val / 128, by have h : (y 1).val < 512 := (y 1).isLt; omega⟩ 0 j)) (fun j => C (ix2 (y 0) j)) (fun j => S (ix2 (y 0) j))
    ⟨(y 1).val % 128, by omega⟩

/-- The stored piece of one head is the head's part of the block. -/
theorem piece_of (X : Vec Ideal S256x512 .f32) (G : Vec Ideal S4x1x128 .f32) (C S : Vec Ideal S256x128 .f32) (k : ℕ) (h : Fin 4) (hk : k = h.val * 128)
    (x : S256x128.Idx) (y : S256x512.Idx) (h0 : (y 0).val = (x 0).val) (h1 : (y 1).val = k + (x 1).val)
    (b0 : ∀ j : Fin 128, k + j.val < 512) (b1 : k + ((x 1).val + 128 - 96) % 128 < 512) (b2 : k + ((x 1).val + 128 - 32) % 128 < 512)
    (b3 : ((x 1).val + 128 - 96) % 128 < 128) (b4 : ((x 1).val + 128 - 32) % 128 < 128) :
    X (ix2 (x 0) ⟨k + (x 1).val, b0 (x 1)⟩) * Ideal.rsqrt (Ideal.div (∑ j : Fin 128, X (ix2 (x 0) ⟨k + j.val, b0 j⟩) * X (ix2 (x 0) ⟨k + j.val, b0 j⟩))
          (Ideal.ofBits .f32 1124073472#32) + Ideal.ofBits .f32 897988541#32) * G (ix3 h 0 (x 1)) * C x
      + Scalar.select (IntOp.cmpi .eq (IntOp.andi (BitVec.ofNat 32 (x 1).val) 32#32) 0#32)
          (X (ix2 (x 0) ⟨k + ((x 1).val + 128 - 96) % 128, b1⟩) * Ideal.rsqrt (Ideal.div (∑ j : Fin 128, X (ix2 (x 0) ⟨k + j.val, b0 j⟩) * X (ix2 (x 0) ⟨k + j.val, b0 j⟩))
            (Ideal.ofBits .f32 1124073472#32) + Ideal.ofBits .f32 897988541#32) * G (ix3 h 0 ⟨((x 1).val + 128 - 96) % 128, b3⟩))
          (X (ix2 (x 0) ⟨k + ((x 1).val + 128 - 32) % 128, b2⟩) * Ideal.rsqrt (Ideal.div (∑ j : Fin 128, X (ix2 (x 0) ⟨k + j.val, b0 j⟩) * X (ix2 (x 0) ⟨k + j.val, b0 j⟩))
            (Ideal.ofBits .f32 1124073472#32) + Ideal.ofBits .f32 897988541#32) * G (ix3 h 0 ⟨((x 1).val + 128 - 32) % 128, b4⟩)) * S x
      = heads X G C S y := by
  have hl : (x 1).val < 128 := (x 1).isLt
  refine (congrArg₂ (· + ·) rfl (congrArg₂ (· * ·) (select_part (rms (fun j => X (ix2 (x 0) ⟨k + j.val, b0 j⟩)) (fun j => G (ix3 h 0 j))) (x 1) b3 b4) rfl)).trans ?_
  have hx : x = ix2 (x 0) (x 1) := by blk_ext
  refine Eq.trans (b := rot (fun j => X (ix2 (x 0) ⟨k + j.val, b0 j⟩)) (fun j => G (ix3 h 0 j)) (fun j => C (ix2 (x 0) j)) (fun j => S (ix2 (x 0) j)) (x 1)) ?_ ?_
  · conv_lhs => rw [hx]
    rfl
  · refine rot_congr (fun j => congrArg X ?_) (fun j => congrArg G ?_) (fun j => congrArg C ?_) (fun j => congrArg S ?_) ?_
    · exact congrArg₂ ix2 (Fin.ext h0.symm) (Fin.ext (by show k + j.val = (y 1).val / 128 * 128 + j.val; omega))
    · refine congrArg (fun i => ix3 i 0 j) (Fin.ext ?_)
      show h.val = (y 1).val / 128
      omega
    · exact congrArg (fun i => ix2 i j) (Fin.ext h0.symm)
    · exact congrArg (fun i => ix2 i j) (Fin.ext h0.symm)
    · show (x 1).val = (y 1).val % 128
      omega

set_option maxHeartbeats 4000000 in
theorem out_at (X : Vec Ideal S256x512 .f32) (G : Vec Ideal S4x1x128 .f32) (C S : Vec Ideal S256x128 .f32) (y : S256x512.Idx) :
    out0_4 X G C S y = heads X G C S y := by
  unfold_out out0_4
  frame_out
  canon_tiles x h
  all_goals
    open_payloads
    pointwise
    first
      | exact piece_of X G C S _ _ (by decide) x y h0 h1 (by omega) (by omega) (by omega) (by omega) (by omega)
      | (have e := piece_of X G C S 0 0 (by decide) x y h0 (by omega) (by omega) (by omega) (by omega) (by omega) (by omega)
         simp only [Nat.zero_add] at e
         exact e)

/-! ## The reference -/

/-- The reference over typed variables. -/
def REF (x : FVec Ideal Cert.KcPrepRefIdeal.S256x1024 .f32) (g : FVec Ideal Cert.KcPrepRefIdeal.S128 .f32) : FVec Ideal Cert.KcPrepRefIdeal.S256x512 .bf16 :=
  Cert.KcPrepRefIdeal.Read.val_main_v17 (F := Ideal) x g

set_option maxHeartbeats 4000000 in
/-- An entry of the reference: the entry's head normed. -/
theorem ref_at (x : FVec Ideal Cert.KcPrepRefIdeal.S256x1024 .f32) (g : FVec Ideal Cert.KcPrepRefIdeal.S128 .f32) (n : Fin 256) (e : Fin 512) :
    REF x g (ix2 n e) = rot (fun j => x (ix2 n ⟨e.val / 128 * 128 + j.val, by omega⟩)) (fun j => g (ix1 j))
      (fun _ => 1) (fun _ => 0) ⟨e.val % 128, Nat.mod_lt _ (by decide)⟩ := by
  rw [rot_one]
  pointwise [REF, Cert.KcPrepRefIdeal.Read.val_main_v0, Cert.KcPrepRefIdeal.Read.val_main_v1, Cert.KcPrepRefIdeal.Read.val_main_v2, Cert.KcPrepRefIdeal.Read.val_main_v3, Cert.KcPrepRefIdeal.Read.val_main_v4, Cert.KcPrepRefIdeal.Read.val_main_v5, Cert.KcPrepRefIdeal.Read.val_main_v6, Cert.KcPrepRefIdeal.Read.val_main_v7, Cert.KcPrepRefIdeal.Read.val_main_v8, Cert.KcPrepRefIdeal.Read.val_main_v9, Cert.KcPrepRefIdeal.Read.val_main_v10, Cert.KcPrepRefIdeal.Read.val_main_v11, Cert.KcPrepRefIdeal.Read.val_main_v12, Cert.KcPrepRefIdeal.Read.val_main_v13, Cert.KcPrepRefIdeal.Read.val_main_v14, Cert.KcPrepRefIdeal.Read.val_main_v15, Cert.KcPrepRefIdeal.Read.val_main_v16, Cert.KcPrepRefIdeal.Read.val_main_v17, Cert.KcPrepRefIdeal.Read.val_main_cst, Cert.KcPrepRefIdeal.Read.val_main_cst_0, Cert.KcPrepRefIdeal.Read.val_main_cst_1]
  rfl

/-! ## The whole output -/

theorem idx : ∀ t : Fin cfg0.N, win0_0.index t = ![t.val, 0] ∧ win0_1.index t = ![0, 0, 0] ∧ win0_2.index t = ![t.val, 0] ∧ win0_3.index t = ![t.val, 0]
    ∧ win0_4.index t = ![t.val, 0] :=
  (by decide +kernel : ∀ t : Fin grid0.N, _)

/-- The gains that the host prepares. -/
theorem gain_read (c : Dev nD) (h : Fin 4) (d : Fin 128) : V m c main_v1 (ix3 h 0 d) = m ((c : Thread nD τ).loc main_arg1) (ix1 d) := by
  entry_read
  pointwise

/-- The cosines that the host prepares. -/
theorem cos_read (c : Dev nD) (n : Fin 256) (d : Fin 128) : V m c main_v2 (ix2 n d) = (1 : EReal) := by
  entry_read
  pointwise

/-- The sines that the host prepares. -/
theorem sin_read (c : Dev nD) (n : Fin 256) (d : Fin 128) : V m c main_v3 (ix2 n d) = (0 : EReal) := by
  entry_read
  pointwise

set_option maxHeartbeats 4000000 in
theorem point (c : Dev nD) (t : Fin cfg0.N) (y) : heads (iblk m c 0 t) (iblk m c 1 t) (iblk m c 2 t) (iblk m c 3 t) y
    = REF (m ((c : Thread nD τ).loc main_arg0)) (m ((c : Thread nD τ).loc main_arg1)) (((cfg0.win 4).blk t).view.emb y) := by
  have hN : t.val < 1 := lt_of_lt_of_eq t.isLt (by decide +kernel)
  have h0 : (y 0).val < 256 := (y 0).isLt
  have h1 : (y 1).val < 512 := (y 1).isLt
  have ey : ((cfg0.win 4).blk t).view.emb y = ix2 ⟨t.val * 256 + (y 0).val, by omega⟩ ⟨(y 1).val, h1⟩ := by
    blk_point [idx t]
  rw [ey, ref_at]
  unfold heads
  refine rot_congr (fun j => ?_) (fun j => ?_) (fun j => ?_) (fun j => ?_) rfl
  · blk_point [iblk, idx t]
  · refine Eq.trans ?_ (gain_read m c ⟨(y 1).val / 128, by omega⟩ j)
    blk_point [iblk, idx t]
  · refine Eq.trans ?_ (cos_read m c ⟨t.val * 256 + (y 0).val, by omega⟩ j)
    blk_point [iblk, idx t]
  · refine Eq.trans ?_ (sin_read m c ⟨t.val * 256 + (y 0).val, by omega⟩ j)
    blk_point [iblk, idx t]

theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]
  exact (out_at _ _ _ _ y).trans (point m c t y)

end Cert.KcPrepIdeal.Value

namespace Cert.Proof

/-- The call on the context keys and its reference leave equal results. -/
theorem kc_prep : Cert.algebraic_KcPrepIdeal_KcPrepRefIdeal := by
  pair_intro
  · run_from Cert.KcPrepIdeal.Value.run_blocks m g
  · run_from Cert.KcPrepRefIdeal.Value.run m' g'
    exact (Cert.KcPrepIdeal.Value.final m c).symm

end Cert.Proof

end
-- ==== Proof.ResLnMod.lean ====
/- The scaled residual sum and its layer norm: with the modulated bf16 input of the branches and its transpose: the kernel's output arrays are the reference's. -/
module

public import proofs.«01_k».proof.Proof.Gen.ResLnModIdeal.Value
public import proofs.«01_k».proof.Proof.Gen.ResLnModRefIdeal.Read
public import Idealize.ShloMosaic.Lib.Pipeline.ValueKit
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ResLnModIdeal.Value

open Cert.ResLnModIdeal Cert.ResLnModIdeal.Gen

variable (m : (ℓ : Loc nD τ sig) → Buf (Elt Ideal) ℓ)

/-- The reference's normed residual over typed variables. -/
def REF7 (x y : FVec Ideal S8192x4096 .f32) (gate : FVec Ideal S1x4096 .f32) (g b : FVec Ideal S4096 .f32) : FVec Ideal S8192x4096 .f32 :=
  Cert.ResLnModRefIdeal.Read.val_main_v28 (F := Ideal) x y gate g b

/-- The reference's modulated input of the branches over typed variables. -/
def REF8 (x y : FVec Ideal S8192x4096 .f32) (gate : FVec Ideal S1x4096 .f32) (g b : FVec Ideal S4096 .f32) (shift scale : FVec Ideal S1x4096 .f32) : FVec Ideal S8192x4096 .bf16 :=
  Cert.ResLnModRefIdeal.Read.val_main_v35 (F := Ideal) x y gate g b shift scale

/-- The transpose of it. -/
def REF9 (x y : FVec Ideal S8192x4096 .f32) (gate : FVec Ideal S1x4096 .f32) (g b : FVec Ideal S4096 .f32) (shift scale : FVec Ideal S1x4096 .f32) : FVec Ideal S4096x8192 .bf16 :=
  Cert.ResLnModRefIdeal.Read.val_main_v36 (F := Ideal) x y gate g b shift scale

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![0, t.val] :=
  (by decide +kernel : ∀ t : Fin grid0.N, _)

set_option maxHeartbeats 4000000 in
theorem point7 (c : Dev nD) (t : Fin cfg0.N) (y) : k0_pay4 (F := Ideal) (iblk m c 0 t) (iblk m c 2 t) (iblk m c 1 t) (iblk m c 3 t) (iblk m c 4 t) y
    = REF7 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay4, REF7, Cert.ResLnModRefIdeal.Read.val_main_v0, Cert.ResLnModRefIdeal.Read.val_main_v1, Cert.ResLnModRefIdeal.Read.val_main_v2, Cert.ResLnModRefIdeal.Read.val_main_v3, Cert.ResLnModRefIdeal.Read.val_main_v4, Cert.ResLnModRefIdeal.Read.val_main_v5, Cert.ResLnModRefIdeal.Read.val_main_v6, Cert.ResLnModRefIdeal.Read.val_main_v7, Cert.ResLnModRefIdeal.Read.val_main_v8, Cert.ResLnModRefIdeal.Read.val_main_v9, Cert.ResLnModRefIdeal.Read.val_main_v10, Cert.ResLnModRefIdeal.Read.val_main_v11, Cert.ResLnModRefIdeal.Read.val_main_v12, Cert.ResLnModRefIdeal.Read.val_main_v13, Cert.ResLnModRefIdeal.Read.val_main_v14, Cert.ResLnModRefIdeal.Read.val_main_v15, Cert.ResLnModRefIdeal.Read.val_main_v16, Cert.ResLnModRefIdeal.Read.val_main_v17, Cert.ResLnModRefIdeal.Read.val_main_v18, Cert.ResLnModRefIdeal.Read.val_main_v19, Cert.ResLnModRefIdeal.Read.val_main_v20, Cert.ResLnModRefIdeal.Read.val_main_v21, Cert.ResLnModRefIdeal.Read.val_main_v22, Cert.ResLnModRefIdeal.Read.val_main_v23, Cert.ResLnModRefIdeal.Read.val_main_v24, Cert.ResLnModRefIdeal.Read.val_main_v25, Cert.ResLnModRefIdeal.Read.val_main_v26, Cert.ResLnModRefIdeal.Read.val_main_v27, Cert.ResLnModRefIdeal.Read.val_main_v28, Cert.ResLnModRefIdeal.Read.val_main_cst, Cert.ResLnModRefIdeal.Read.val_main_cst_0, Cert.ResLnModRefIdeal.Read.val_main_cst_1, Cert.ResLnModRefIdeal.Read.val_main_cst_2, Cert.ResLnModRefIdeal.Read.val_main_cst_3, Cert.ResLnModRefIdeal.Read.val_main_cst_4, Cert.ResLnModRefIdeal.Read.val_main_cst_5]
  blk_point [iblk, V, idx t]

theorem final7 (c : Dev nD) : (dats m 0 c).arrAt 7 (cfgs 0).N
    = REF7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; unfold_out out0_7; frame_out
  exact point7 m c t y

set_option maxHeartbeats 4000000 in
theorem point8 (c : Dev nD) (t : Fin cfg0.N) (y) : k0_pay2 (F := Ideal) (k0_pay4 (iblk m c 0 t) (iblk m c 2 t) (iblk m c 1 t) (iblk m c 3 t) (iblk m c 4 t)) (k0_pay5 (iblk m c 6 t)) (iblk m c 5 t) y
    = REF8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  pointwise [k0_pay1, k0_pay2, k0_pay4, k0_pay5, REF8, Cert.ResLnModRefIdeal.Read.val_main_v0, Cert.ResLnModRefIdeal.Read.val_main_v1, Cert.ResLnModRefIdeal.Read.val_main_v2, Cert.ResLnModRefIdeal.Read.val_main_v3, Cert.ResLnModRefIdeal.Read.val_main_v4, Cert.ResLnModRefIdeal.Read.val_main_v5, Cert.ResLnModRefIdeal.Read.val_main_v6, Cert.ResLnModRefIdeal.Read.val_main_v7, Cert.ResLnModRefIdeal.Read.val_main_v8, Cert.ResLnModRefIdeal.Read.val_main_v9, Cert.ResLnModRefIdeal.Read.val_main_v10, Cert.ResLnModRefIdeal.Read.val_main_v11, Cert.ResLnModRefIdeal.Read.val_main_v12, Cert.ResLnModRefIdeal.Read.val_main_v13, Cert.ResLnModRefIdeal.Read.val_main_v14, Cert.ResLnModRefIdeal.Read.val_main_v15, Cert.ResLnModRefIdeal.Read.val_main_v16, Cert.ResLnModRefIdeal.Read.val_main_v17, Cert.ResLnModRefIdeal.Read.val_main_v18, Cert.ResLnModRefIdeal.Read.val_main_v19, Cert.ResLnModRefIdeal.Read.val_main_v20, Cert.ResLnModRefIdeal.Read.val_main_v21, Cert.ResLnModRefIdeal.Read.val_main_v22, Cert.ResLnModRefIdeal.Read.val_main_v23, Cert.ResLnModRefIdeal.Read.val_main_v24, Cert.ResLnModRefIdeal.Read.val_main_v25, Cert.ResLnModRefIdeal.Read.val_main_v26, Cert.ResLnModRefIdeal.Read.val_main_v27, Cert.ResLnModRefIdeal.Read.val_main_v28, Cert.ResLnModRefIdeal.Read.val_main_v29, Cert.ResLnModRefIdeal.Read.val_main_v30, Cert.ResLnModRefIdeal.Read.val_main_v31, Cert.ResLnModRefIdeal.Read.val_main_v32, Cert.ResLnModRefIdeal.Read.val_main_v33, Cert.ResLnModRefIdeal.Read.val_main_v34, Cert.ResLnModRefIdeal.Read.val_main_v35, Cert.ResLnModRefIdeal.Read.val_main_cst, Cert.ResLnModRefIdeal.Read.val_main_cst_0, Cert.ResLnModRefIdeal.Read.val_main_cst_1, Cert.ResLnModRefIdeal.Read.val_main_cst_2, Cert.ResLnModRefIdeal.Read.val_main_cst_3, Cert.ResLnModRefIdeal.Read.val_main_cst_4, Cert.ResLnModRefIdeal.Read.val_main_cst_5]
  blk_point [iblk, V, idx t]

theorem final8 (c : Dev nD) : (dats m 0 c).arrAt 8 (cfgs 0).N
    = REF8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; unfold_out out0_8; frame_out
  exact point8 m c t y

set_option maxHeartbeats 4000000 in
theorem point9 (c : Dev nD) (t : Fin cfg0.N) (y) : k0_pay3 (F := Ideal) (k0_pay4 (iblk m c 0 t) (iblk m c 2 t) (iblk m c 1 t) (iblk m c 3 t) (iblk m c 4 t)) (k0_pay5 (iblk m c 6 t)) (iblk m c 5 t) y
    = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay1, k0_pay3, k0_pay4, k0_pay5, REF9, Cert.ResLnModRefIdeal.Read.val_main_v0, Cert.ResLnModRefIdeal.Read.val_main_v1, Cert.ResLnModRefIdeal.Read.val_main_v2, Cert.ResLnModRefIdeal.Read.val_main_v3, Cert.ResLnModRefIdeal.Read.val_main_v4, Cert.ResLnModRefIdeal.Read.val_main_v5, Cert.ResLnModRefIdeal.Read.val_main_v6, Cert.ResLnModRefIdeal.Read.val_main_v7, Cert.ResLnModRefIdeal.Read.val_main_v8, Cert.ResLnModRefIdeal.Read.val_main_v9, Cert.ResLnModRefIdeal.Read.val_main_v10, Cert.ResLnModRefIdeal.Read.val_main_v11, Cert.ResLnModRefIdeal.Read.val_main_v12, Cert.ResLnModRefIdeal.Read.val_main_v13, Cert.ResLnModRefIdeal.Read.val_main_v14, Cert.ResLnModRefIdeal.Read.val_main_v15, Cert.ResLnModRefIdeal.Read.val_main_v16, Cert.ResLnModRefIdeal.Read.val_main_v17, Cert.ResLnModRefIdeal.Read.val_main_v18, Cert.ResLnModRefIdeal.Read.val_main_v19, Cert.ResLnModRefIdeal.Read.val_main_v20, Cert.ResLnModRefIdeal.Read.val_main_v21, Cert.ResLnModRefIdeal.Read.val_main_v22, Cert.ResLnModRefIdeal.Read.val_main_v23, Cert.ResLnModRefIdeal.Read.val_main_v24, Cert.ResLnModRefIdeal.Read.val_main_v25, Cert.ResLnModRefIdeal.Read.val_main_v26, Cert.ResLnModRefIdeal.Read.val_main_v27, Cert.ResLnModRefIdeal.Read.val_main_v28, Cert.ResLnModRefIdeal.Read.val_main_v29, Cert.ResLnModRefIdeal.Read.val_main_v30, Cert.ResLnModRefIdeal.Read.val_main_v31, Cert.ResLnModRefIdeal.Read.val_main_v32, Cert.ResLnModRefIdeal.Read.val_main_v33, Cert.ResLnModRefIdeal.Read.val_main_v34, Cert.ResLnModRefIdeal.Read.val_main_v35, Cert.ResLnModRefIdeal.Read.val_main_v36, Cert.ResLnModRefIdeal.Read.val_main_cst, Cert.ResLnModRefIdeal.Read.val_main_cst_0, Cert.ResLnModRefIdeal.Read.val_main_cst_1, Cert.ResLnModRefIdeal.Read.val_main_cst_2, Cert.ResLnModRefIdeal.Read.val_main_cst_3, Cert.ResLnModRefIdeal.Read.val_main_cst_4, Cert.ResLnModRefIdeal.Read.val_main_cst_5]
  blk_point [iblk, V, idx t]

theorem final9 (c : Dev nD) : (dats m 0 c).arrAt 9 (cfgs 0).N
    = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; unfold_out out0_9; frame_out
  exact point9 m c t y

end Cert.ResLnModIdeal.Value

namespace Cert.Proof

/-- The first call of the norm with its two branch inputs and its reference leave equal results. -/
theorem resln_mod : Cert.algebraic_ResLnModIdeal_ResLnModRefIdeal := by
  pair_intro
  · run_from Cert.ResLnModIdeal.Value.run_blocks m g
  · run_from Cert.ResLnModRefIdeal.Value.run m' g'
    · exact (Cert.ResLnModIdeal.Value.final7 m c).symm
    · exact (Cert.ResLnModIdeal.Value.final8 m c).symm
    · exact (Cert.ResLnModIdeal.Value.final9 m c).symm

end Cert.Proof

end
-- ==== Proof.ModVec.lean ====
/- The modulation vectors: the activated vectors are kept in the scratch from the first point on, and each block of columns is a
   product with them; the output array is the reference's. -/
module

public import proofs.«01_k».proof.Proof.Gen.ModVecIdeal.Value
public import proofs.«01_k».proof.Proof.Gen.ModVecRefIdeal.Read
public import Idealize.ShloMosaic.Lib.Pipeline.ValueKit
public import Idealize.ShloMosaic.Lib.Pipeline.ReadBack
public import proofs.«01_k».proof.Defs
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.ModVecIdeal.Value

open Cert.ModVecIdeal Cert.ModVecIdeal.Gen

variable (m : (ℓ : Loc nD τ sig) → Buf (Elt Ideal) ℓ)

/-- The activation of an entry. -/
def act (u : EReal) : EReal := u * Ideal.logistic u

/-- What the scratch holds: each activated vector, along all lanes. -/
def scr (X : Vec Ideal S4096x2 .f32) (y : S2x4096x128.Idx) : EReal := act (X (ix2 (y 1) (y 0)))

/-- What a block of the output holds. -/
def blkOut (X : Vec Ideal S4096x2 .f32) (W : Vec Ideal S4096x512 .f32) (B : Vec Ideal S1x512 .f32) (y : S2x512.Idx) : EReal :=
  (∑ d : Fin 4096, W (ix2 d (y 1)) * act (X (ix2 d (y 0)))) + B (ix2 0 (y 1))

theorem block_eq (X : Vec Ideal S4096x2 .f32) (W : Vec Ideal S4096x512 .f32) (B : Vec Ideal S1x512 .f32) (y : S2x512.Idx) (n : Fin 512) (r : Fin 2)
    (hn : n.val = (y 1).val) (hr : r.val = (y 0).val) : (∑ d : Fin 4096, W (ix2 d n) * act (X (ix2 d r))) + B (ix2 0 n) = blkOut X W B y := by
  obtain rfl : n = y 1 := Fin.ext hn
  obtain rfl : r = y 0 := Fin.ext hr
  rfl

set_option maxHeartbeats 4000000 in
theorem scratch_first (c : Dev nD) (t : Fin cfg0.N) (h0 : t.val % 48 = 0) (y : S2x4096x128.Idx) : (outsAt0 m c t.val t.isLt).2 y = scr (iblk m c 0 t) y := by
  rw [outsAt0_A m c t h0]
  generalize iblk m c 0 t = X
  frame_out
  canon_tiles x h
  all_goals
    open_payloads
    pointwise [scr, act]
    refine congrArg act (congrArg X (congrArg₂ ix2 ?_ ?_)) <;> apply Fin.ext <;> simp <;> omega

set_option maxHeartbeats 4000000 in
theorem out_first (c : Dev nD) (t : Fin cfg0.N) (h0 : t.val % 48 = 0) (y : S2x512.Idx) :
    (outsAt0 m c t.val t.isLt).1 y = blkOut (iblk m c 0 t) (iblk m c 1 t) (iblk m c 2 t) y := by
  rw [outsAt0_A m c t h0]
  generalize iblk m c 0 t = X
  generalize iblk m c 1 t = W
  generalize iblk m c 2 t = B
  frame_out
  canon_tiles x h
  all_goals
    open_payloads
    simp (disch := decide) only [↓View.readCov_skip, ↓View.readCov_fill, ↓View.readCov_cons_toLoadRect, read_unread_whole]
    pointwise
    first
      | exact block_eq X W B y _ 1 (by simp; omega) (by simp; omega)
      | exact block_eq X W B y _ 0 (by simp; omega) (by simp; omega)

set_option maxHeartbeats 4000000 in
theorem out_next (c : Dev nD) (t : Fin cfg0.N) (h0 : ¬t.val % 48 = 0) (T : Vec Ideal S4096x2 .f32)
    (hT : ∀ y, (outsAt0 m c (t.val - 1) (Nat.lt_of_le_of_lt (Nat.sub_le _ _) t.isLt)).2 y = scr T y) (y : S2x512.Idx) :
    (outsAt0 m c t.val t.isLt).1 y = blkOut T (iblk m c 1 t) (iblk m c 2 t) y := by
  rw [outsAt0_B m c t h0]
  generalize (outsAt0 m c (t.val - 1) (Nat.lt_of_le_of_lt (Nat.sub_le _ _) t.isLt)).2 = A at hT ⊢
  generalize iblk m c 1 t = W
  generalize iblk m c 2 t = B
  frame_out
  canon_tiles x h
  all_goals
    open_payloads
    simp only [read_unread_whole, funext hT]
    pointwise [scr]
    first
      | exact block_eq T W B y _ 1 (by simp; omega) (by simp; omega)
      | exact block_eq T W B y _ 0 (by simp; omega) (by simp; omega)

theorem act_eq (u v : EReal) (h : u = v) : u * Ideal.div 1 (1 + Ideal.exp (-u)) = act v := by
  rw [h]; rfl

/-- The reference over typed variables. -/
def REF (x : FVec Ideal S1x4096 .f32) (z : FVec Ideal S4096 .f32) (w : FVec Ideal S4096x24576 .f32) (b : FVec Ideal S24576 .f32) : FVec Ideal S2x24576 .f32 :=
  Cert.ModVecRefIdeal.Read.val_main_v9 (F := Ideal) x z w b

set_option maxHeartbeats 4000000 in
theorem ref_at (x : FVec Ideal S1x4096 .f32) (z : FVec Ideal S4096 .f32) (w : FVec Ideal S4096x24576 .f32) (b : FVec Ideal S24576 .f32) (r : Fin 2) (n : Fin 24576) :
    REF x z w b (ix2 r n) = (∑ d : Fin 4096, w (ix2 d n) * act (if r.val < 1 then x (ix2 0 d) else z (ix1 d))) + b (ix1 n) := by
  pointwise [REF, Cert.ModVecRefIdeal.Read.val_main_call0_v0, Cert.ModVecRefIdeal.Read.val_main_call0_v1, Cert.ModVecRefIdeal.Read.val_main_call0_cst, Cert.ModVecRefIdeal.Read.val_main_call0_v2, Cert.ModVecRefIdeal.Read.val_main_call0_v3, Cert.ModVecRefIdeal.Read.val_main_call0_cst_0, Cert.ModVecRefIdeal.Read.val_main_call0_v4, Cert.ModVecRefIdeal.Read.val_main_call0_v5, Cert.ModVecRefIdeal.Read.val_main_v0, Cert.ModVecRefIdeal.Read.val_main_v1, Cert.ModVecRefIdeal.Read.val_main_v2, Cert.ModVecRefIdeal.Read.val_main_v3, Cert.ModVecRefIdeal.Read.val_main_v4, Cert.ModVecRefIdeal.Read.val_main_call1_v0, Cert.ModVecRefIdeal.Read.val_main_call1_v1, Cert.ModVecRefIdeal.Read.val_main_call1_cst, Cert.ModVecRefIdeal.Read.val_main_call1_v2, Cert.ModVecRefIdeal.Read.val_main_call1_v3, Cert.ModVecRefIdeal.Read.val_main_call1_cst_0, Cert.ModVecRefIdeal.Read.val_main_call1_v4, Cert.ModVecRefIdeal.Read.val_main_call1_v5, Cert.ModVecRefIdeal.Read.val_main_v5, Cert.ModVecRefIdeal.Read.val_main_v6, Cert.ModVecRefIdeal.Read.val_main_v7, Cert.ModVecRefIdeal.Read.val_main_v8, Cert.ModVecRefIdeal.Read.val_main_v9]
  split
  all_goals
    rename_i h
    refine congrArg (· + b (ix1 n)) (Finset.sum_congr rfl fun d _ => (mul_comm _ _).trans (congrArg (w (ix2 d n) * ·) (act_eq _ _ ?_)))
  · exact (congrArg (fun k => x (ix2 k d)) (Fin.ext (show r.val = 0 by omega)))
  · rfl

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem col_read (c : Dev nD) (d : Fin 4096) (r : Fin 2) : V m c main_v3 (ix2 d r) = if r.val < 1 then m ((c : Thread nD τ).loc main_arg0) (ix2 0 d) else m ((c : Thread nD τ).loc main_arg1) (ix1 d) := by
  entry_read
  pointwise
  rfl

/-- The two vectors, as the columns the kernel is given. -/
def cols (c : Dev nD) : Vec Ideal S4096x2 .f32 := fun y => V m c main_v3 y

theorem win0_at (c : Dev nD) (t : Fin cfg0.N) : iblk m c 0 t = cols m c := by
  funext y
  show _ = V m c main_v3 y
  blk_ext [iblk, idx t]

theorem scratch_at (c : Dev nD) (n : ℕ) : ∀ (hn : n < cfg0.N) (y : S2x4096x128.Idx), (outsAt0 m c n hn).2 y = scr (cols m c) y := by
  induction n with
  | zero => exact fun hn y => (scratch_first m c ⟨0, hn⟩ rfl y).trans (by rw [win0_at])
  | succ n ih =>
    intro hn y
    by_cases h0 : (n + 1) % 48 = 0
    · exact (scratch_first m c ⟨n + 1, hn⟩ h0 y).trans (by rw [win0_at])
    · have e := outsAt0_B m c ⟨n + 1, hn⟩ h0
      exact (congrFun (congrArg Prod.snd e) y).trans (ih _ y)

theorem out_at (c : Dev nD) (t : Fin cfg0.N) (y : S2x512.Idx) :
    (outsAt0 m c t.val t.isLt).1 y = blkOut (cols m c) (iblk m c 1 t) (iblk m c 2 t) y := by
  by_cases h0 : t.val % 48 = 0
  · exact (out_first m c t h0 y).trans (by rw [win0_at])
  · exact out_next m c t h0 (cols m c) (scratch_at m c _ _) y

theorem bias_read (c : Dev nD) (n : Fin 24576) : V m c main_v4 (ix2 0 n) = m ((c : Thread nD τ).loc main_arg3) (ix1 n) := by
  entry_read
  pointwise

theorem col_lt (t : Fin cfg0.N) (n : Fin 512) : t.val * 512 + n.val < 24576 := by
  have h : t.val < 48 := t.isLt
  omega

set_option maxHeartbeats 4000000 in
theorem point (c : Dev nD) (t : Fin cfg0.N) (y : S2x512.Idx) : blkOut (cols m c) (iblk m c 1 t) (iblk m c 2 t) y
    = REF (m ((c : Thread nD τ).loc main_arg0)) (m ((c : Thread nD τ).loc main_arg1)) (m ((c : Thread nD τ).loc main_arg2)) (m ((c : Thread nD τ).loc main_arg3)) (((cfg0.win 3).blk t).view.emb y) := by
  have hy : ((cfg0.win 3).blk t).view.emb y = ix2 (⟨(y 0).val, by simpa using (y 0).isLt⟩ : Fin 2) (⟨t.val * 512 + (y 1).val, col_lt t (y 1)⟩ : Fin 24576) := by
    blk_ext [idx t]
  have hw : ∀ d : Fin 4096, iblk m c 1 t (ix2 d (y 1)) = m ((c : Thread nD τ).loc main_arg2) (ix2 d (⟨t.val * 512 + (y 1).val, col_lt t (y 1)⟩ : Fin 24576)) := by
    intro d
    blk_point [iblk, V, idx t]
  have hb : iblk m c 2 t (ix2 0 (y 1)) = V m c main_v4 (ix2 0 (⟨t.val * 512 + (y 1).val, col_lt t (y 1)⟩ : Fin 24576)) := by
    blk_point [iblk, idx t]
  rw [hy, ref_at]
  unfold blkOut
  rw [hb, bias_read]
  refine congrArg (· + _) (Finset.sum_congr rfl fun d _ => ?_)
  rw [hw d]
  exact congrArg (fun u => _ * act u) (col_read m c d _)

theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  refine (out_at m c t y).trans ?_
  exact point m c t y

end Cert.ModVecIdeal.Value

namespace Cert.Proof

/-- The kernel of the modulation vectors and its reference leave equal results. -/
theorem modvec : Cert.algebraic_ModVecIdeal_ModVecRefIdeal := by
  pair_intro
  · run_from Cert.ModVecIdeal.Value.run_blocks m g
  · run_from Cert.ModVecRefIdeal.Value.run m' g'
    rw [Cert.ModVecRefIdeal.Read.val_main_v9_eq, (hagree c).2.2.2]
    exact (Cert.ModVecIdeal.Value.final m c).symm

end Cert.Proof

end
-- ==== Proof.lean ====
/- The claim: each program ends without fault with its arguments unchanged and its counters at zero, each ideal
   program is its kernel over the extended reals, and each kernel computes what its reference does. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.AttnIn
public import proofs.«01_k».proof.Proof.Gen.AttnIn.Skeleton
public import proofs.«01_k».proof.Proof.Gen.AttnIn.Launch
public import proofs.«01_k».proof.Proof.Gen.AttnIn.Points
public import proofs.«01_k».proof.Proof.Gen.AttnIn.Frame
public import proofs.«01_k».proof.Proof.Gen.AttnInIdeal
public import proofs.«01_k».proof.Proof.Gen.AttnInIdeal.Skeleton
public import proofs.«01_k».proof.Proof.Gen.AttnInIdeal.Launch
public import proofs.«01_k».proof.Proof.Gen.AttnInIdeal.Points
public import proofs.«01_k».proof.Proof.Gen.AttnInIdeal.Frame
public import proofs.«01_k».proof.Proof.Gen.AttnInRefIdeal
public import proofs.«01_k».proof.Proof.Gen.GmlpIn
public import proofs.«01_k».proof.Proof.Gen.GmlpIn.Skeleton
public import proofs.«01_k».proof.Proof.Gen.GmlpIn.Launch
public import proofs.«01_k».proof.Proof.Gen.GmlpIn.Points
public import proofs.«01_k».proof.Proof.Gen.GmlpIn.Frame
public import proofs.«01_k».proof.Proof.Gen.GmlpInIdeal
public import proofs.«01_k».proof.Proof.Gen.GmlpInIdeal.Skeleton
public import proofs.«01_k».proof.Proof.Gen.GmlpInIdeal.Launch
public import proofs.«01_k».proof.Proof.Gen.GmlpInIdeal.Points
public import proofs.«01_k».proof.Proof.Gen.GmlpInIdeal.Frame
public import proofs.«01_k».proof.Proof.Gen.GmlpInRefIdeal
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutRefIdeal
public import proofs.«01_k».proof.Proof.Gen.GmlpOut
public import proofs.«01_k».proof.Proof.Gen.GmlpOut.Skeleton
public import proofs.«01_k».proof.Proof.Gen.GmlpOut.Launch
public import proofs.«01_k».proof.Proof.Gen.GmlpOut.Points
public import proofs.«01_k».proof.Proof.Gen.GmlpOut.Frame
public import proofs.«01_k».proof.Proof.Gen.GmlpOutIdeal
public import proofs.«01_k».proof.Proof.Gen.GmlpOutIdeal.Skeleton
public import proofs.«01_k».proof.Proof.Gen.GmlpOutIdeal.Launch
public import proofs.«01_k».proof.Proof.Gen.GmlpOutIdeal.Points
public import proofs.«01_k».proof.Proof.Gen.GmlpOutIdeal.Frame
public import proofs.«01_k».proof.Proof.Gen.GmlpOutRefIdeal
public import proofs.«01_k».proof.Proof.Gen.PeerQ
public import proofs.«01_k».proof.Proof.Gen.PeerQ.Skeleton
public import proofs.«01_k».proof.Proof.Gen.PeerQ.Launch
public import proofs.«01_k».proof.Proof.Gen.PeerQ.Points
public import proofs.«01_k».proof.Proof.Gen.PeerQ.Frame
public import proofs.«01_k».proof.Proof.Gen.PeerQIdeal
public import proofs.«01_k».proof.Proof.Gen.PeerQIdeal.Skeleton
public import proofs.«01_k».proof.Proof.Gen.PeerQIdeal.Launch
public import proofs.«01_k».proof.Proof.Gen.PeerQIdeal.Points
public import proofs.«01_k».proof.Proof.Gen.PeerQIdeal.Frame
public import proofs.«01_k».proof.Proof.Gen.PeerQRefIdeal
public import proofs.«01_k».proof.Proof.Gen.CtxKv
public import proofs.«01_k».proof.Proof.Gen.CtxKv.Skeleton
public import proofs.«01_k».proof.Proof.Gen.CtxKv.Launch
public import proofs.«01_k».proof.Proof.Gen.CtxKv.Points
public import proofs.«01_k».proof.Proof.Gen.CtxKv.Frame
public import proofs.«01_k».proof.Proof.Gen.CtxKvIdeal
public import proofs.«01_k».proof.Proof.Gen.CtxKvIdeal.Skeleton
public import proofs.«01_k».proof.Proof.Gen.CtxKvIdeal.Launch
public import proofs.«01_k».proof.Proof.Gen.CtxKvIdeal.Points
public import proofs.«01_k».proof.Proof.Gen.CtxKvIdeal.Frame
public import proofs.«01_k».proof.Proof.Gen.CtxKvRefIdeal
public import proofs.«01_k».proof.Proof.Gen.ResLn
public import proofs.«01_k».proof.Proof.Gen.ResLn.Skeleton
public import proofs.«01_k».proof.Proof.Gen.ResLn.Launch
public import proofs.«01_k».proof.Proof.Gen.ResLn.Points
public import proofs.«01_k».proof.Proof.Gen.ResLn.Frame
public import proofs.«01_k».proof.Proof.Gen.ResLnIdeal
public import proofs.«01_k».proof.Proof.Gen.ResLnIdeal.Skeleton
public import proofs.«01_k».proof.Proof.Gen.ResLnIdeal.Launch
public import proofs.«01_k».proof.Proof.Gen.ResLnIdeal.Points
public import proofs.«01_k».proof.Proof.Gen.ResLnIdeal.Frame
public import proofs.«01_k».proof.Proof.Gen.ResLnRefIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.Modulate
public import proofs.«01_k».proof.Proof.Gen.Modulate.Skeleton
public import proofs.«01_k».proof.Proof.Gen.Modulate.Launch
public import proofs.«01_k».proof.Proof.Gen.Modulate.Points
public import proofs.«01_k».proof.Proof.Gen.Modulate.Frame
public import proofs.«01_k».proof.Proof.Gen.ModulateIdeal
public import proofs.«01_k».proof.Proof.Gen.ModulateIdeal.Skeleton
public import proofs.«01_k».proof.Proof.Gen.ModulateIdeal.Launch
public import proofs.«01_k».proof.Proof.Gen.ModulateIdeal.Points
public import proofs.«01_k».proof.Proof.Gen.ModulateIdeal.Frame
public import proofs.«01_k».proof.Proof.Gen.ModulateRefIdeal
public import proofs.«01_k».proof.Proof.Gen.QkPrep
public import proofs.«01_k».proof.Proof.Gen.QkPrep.Skeleton
public import proofs.«01_k».proof.Proof.Gen.QkPrep.Launch
public import proofs.«01_k».proof.Proof.Gen.QkPrep.Points
public import proofs.«01_k».proof.Proof.Gen.QkPrep.Frame
public import proofs.«01_k».proof.Proof.Gen.QkPrepIdeal
public import proofs.«01_k».proof.Proof.Gen.QkPrepIdeal.Skeleton
public import proofs.«01_k».proof.Proof.Gen.QkPrepIdeal.Launch
public import proofs.«01_k».proof.Proof.Gen.QkPrepIdeal.Points
public import proofs.«01_k».proof.Proof.Gen.QkPrepIdeal.Frame
public import proofs.«01_k».proof.Proof.Gen.QkPrepRefIdeal
public import proofs.«01_k».proof.Proof.Gen.KcPrep
public import proofs.«01_k».proof.Proof.Gen.KcPrep.Skeleton
public import proofs.«01_k».proof.Proof.Gen.KcPrep.Launch
public import proofs.«01_k».proof.Proof.Gen.KcPrep.Points
public import proofs.«01_k».proof.Proof.Gen.KcPrep.Frame
public import proofs.«01_k».proof.Proof.Gen.KcPrepIdeal
public import proofs.«01_k».proof.Proof.Gen.KcPrepIdeal.Skeleton
public import proofs.«01_k».proof.Proof.Gen.KcPrepIdeal.Launch
public import proofs.«01_k».proof.Proof.Gen.KcPrepIdeal.Points
public import proofs.«01_k».proof.Proof.Gen.KcPrepIdeal.Frame
public import proofs.«01_k».proof.Proof.Gen.KcPrepRefIdeal
public import proofs.«01_k».proof.Proof.Gen.ResLnMod
public import proofs.«01_k».proof.Proof.Gen.ResLnMod.Skeleton
public import proofs.«01_k».proof.Proof.Gen.ResLnMod.Launch
public import proofs.«01_k».proof.Proof.Gen.ResLnMod.Points
public import proofs.«01_k».proof.Proof.Gen.ResLnMod.Frame
public import proofs.«01_k».proof.Proof.Gen.ResLnModIdeal
public import proofs.«01_k».proof.Proof.Gen.ResLnModIdeal.Skeleton
public import proofs.«01_k».proof.Proof.Gen.ResLnModIdeal.Launch
public import proofs.«01_k».proof.Proof.Gen.ResLnModIdeal.Points
public import proofs.«01_k».proof.Proof.Gen.ResLnModIdeal.Frame
public import proofs.«01_k».proof.Proof.Gen.ResLnModRefIdeal
public import proofs.«01_k».proof.Proof.Gen.ModVec
public import proofs.«01_k».proof.Proof.Gen.ModVec.Skeleton
public import proofs.«01_k».proof.Proof.Gen.ModVec.Launch
public import proofs.«01_k».proof.Proof.Gen.ModVec.Points
public import proofs.«01_k».proof.Proof.Gen.ModVec.Frame
public import proofs.«01_k».proof.Proof.Gen.ModVecIdeal
public import proofs.«01_k».proof.Proof.Gen.ModVecIdeal.Skeleton
public import proofs.«01_k».proof.Proof.Gen.ModVecIdeal.Launch
public import proofs.«01_k».proof.Proof.Gen.ModVecIdeal.Points
public import proofs.«01_k».proof.Proof.Gen.ModVecIdeal.Frame
public import proofs.«01_k».proof.Proof.Gen.ModVecRefIdeal
public import proofs.«01_k».proof.Proof.Gen.Pre_finite
public import proofs.«01_k».proof.Proof.Flash
public import proofs.«01_k».proof.Proof.AttnIn
public import proofs.«01_k».proof.Proof.GmlpIn
public import proofs.«01_k».proof.Proof.AttnOut
public import proofs.«01_k».proof.Proof.GmlpOut
public import proofs.«01_k».proof.Proof.PeerQ
public import proofs.«01_k».proof.Proof.CtxKv
public import proofs.«01_k».proof.Proof.ResLn
public import proofs.«01_k».proof.Proof.Sgu
public import proofs.«01_k».proof.Proof.Modulate
public import proofs.«01_k».proof.Proof.QkPrep
public import proofs.«01_k».proof.Proof.KcPrep
public import proofs.«01_k».proof.Proof.ResLnMod
public import proofs.«01_k».proof.Proof.ModVec
public import Idealize.ShloMosaic.Adequacy
public import Idealize.ShloMosaic.Init

@[expose] public section

noncomputable section

namespace Cert.Proof

open Idealize.ShloMosaic Idealize.SL.Sem Cert.Kernel

set_option maxHeartbeats 4000000 in
/-- All claims: first the frames, then for each program the ideal reading and the value. -/
theorem claim : Cert.Claim := ⟨Cert.Kernel.Gen.facts, Cert.KernelIdeal.Gen.facts, Cert.ReferenceIdeal.Gen.facts, Cert.AttnIn.Gen.facts,
  Cert.AttnInIdeal.Gen.facts, Cert.AttnInRefIdeal.Gen.facts, Cert.GmlpIn.Gen.facts, Cert.GmlpInIdeal.Gen.facts,
  Cert.GmlpInRefIdeal.Gen.facts, Cert.AttnOut.Gen.facts, Cert.AttnOutIdeal.Gen.facts, Cert.AttnOutRefIdeal.Gen.facts,
  Cert.GmlpOut.Gen.facts, Cert.GmlpOutIdeal.Gen.facts, Cert.GmlpOutRefIdeal.Gen.facts, Cert.PeerQ.Gen.facts,
  Cert.PeerQIdeal.Gen.facts, Cert.PeerQRefIdeal.Gen.facts, Cert.CtxKv.Gen.facts, Cert.CtxKvIdeal.Gen.facts,
  Cert.CtxKvRefIdeal.Gen.facts, Cert.ResLn.Gen.facts, Cert.ResLnIdeal.Gen.facts, Cert.ResLnRefIdeal.Gen.facts,
  Cert.Sgu.Gen.facts, Cert.SguIdeal.Gen.facts, Cert.SguRefIdeal.Gen.facts, Cert.Modulate.Gen.facts,
  Cert.ModulateIdeal.Gen.facts, Cert.ModulateRefIdeal.Gen.facts, Cert.QkPrep.Gen.facts, Cert.QkPrepIdeal.Gen.facts,
  Cert.QkPrepRefIdeal.Gen.facts, Cert.KcPrep.Gen.facts, Cert.KcPrepIdeal.Gen.facts, Cert.KcPrepRefIdeal.Gen.facts,
  Cert.ResLnMod.Gen.facts, Cert.ResLnModIdeal.Gen.facts, Cert.ResLnModRefIdeal.Gen.facts, Cert.ModVec.Gen.facts,
  Cert.ModVecIdeal.Gen.facts, Cert.ModVecRefIdeal.Gen.facts, Cert.Pre_finite.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.Kernel.Gen.frame m g
  · exact fun m g _ => Cert.KernelIdeal.Gen.frame m g
  · exact fun m g _ => Cert.KernelIdeal.Gen.frame m g
  · intro m g hpre
    hlo_run
    all_goals first | exact (fun _ => by simp) | exact sem_eq_zero_of_no_sems (show _ from by decide) _ | (refine sem_eq_zero_of_no_sems ?_ _; decide)
  · intro m g hpre
    hlo_run
    all_goals first | exact (fun _ => by simp) | exact sem_eq_zero_of_no_sems (show _ from by decide) _ | (refine sem_eq_zero_of_no_sems ?_ _; decide)
  · exact fun m g _ => Cert.AttnIn.Gen.frame m g
  · exact fun m g _ => Cert.AttnInIdeal.Gen.frame m g
  · intro m g hpre
    hlo_run
    all_goals first | exact (fun _ => by simp) | exact sem_eq_zero_of_no_sems (show _ from by decide) _ | (refine sem_eq_zero_of_no_sems ?_ _; decide)
  · exact fun m g _ => Cert.GmlpIn.Gen.frame m g
  · exact fun m g _ => Cert.GmlpInIdeal.Gen.frame m g
  · intro m g hpre
    hlo_run
    all_goals first | exact (fun _ => by simp) | exact sem_eq_zero_of_no_sems (show _ from by decide) _ | (refine sem_eq_zero_of_no_sems ?_ _; decide)
  · exact fun m g _ => Cert.AttnOut.Gen.frame m g
  · exact fun m g _ => Cert.AttnOutIdeal.Gen.frame m g
  · intro m g hpre
    hlo_run
    all_goals first | exact (fun _ => by simp) | exact sem_eq_zero_of_no_sems (show _ from by decide) _ | (refine sem_eq_zero_of_no_sems ?_ _; decide)
  · exact fun m g _ => Cert.GmlpOut.Gen.frame m g
  · exact fun m g _ => Cert.GmlpOutIdeal.Gen.frame m g
  · intro m g hpre
    hlo_run
    all_goals first | exact (fun _ => by simp) | exact sem_eq_zero_of_no_sems (show _ from by decide) _ | (refine sem_eq_zero_of_no_sems ?_ _; decide)
  · exact fun m g _ => Cert.PeerQ.Gen.frame m g
  · exact fun m g _ => Cert.PeerQIdeal.Gen.frame m g
  · intro m g hpre
    hlo_run
    all_goals first | exact (fun _ => by simp) | exact sem_eq_zero_of_no_sems (show _ from by decide) _ | (refine sem_eq_zero_of_no_sems ?_ _; decide)
  · exact fun m g _ => Cert.CtxKv.Gen.frame m g
  · exact fun m g _ => Cert.CtxKvIdeal.Gen.frame m g
  · intro m g hpre
    hlo_run
    all_goals first | exact (fun _ => by simp) | exact sem_eq_zero_of_no_sems (show _ from by decide) _ | (refine sem_eq_zero_of_no_sems ?_ _; decide)
  · exact fun m g _ => Cert.ResLn.Gen.frame m g
  · exact fun m g _ => Cert.ResLnIdeal.Gen.frame m g
  · intro m g hpre
    hlo_run
    all_goals first | exact (fun _ => by simp) | exact sem_eq_zero_of_no_sems (show _ from by decide) _ | (refine sem_eq_zero_of_no_sems ?_ _; decide)
  · exact fun m g _ => Cert.Sgu.Gen.frame m g
  · exact fun m g _ => Cert.SguIdeal.Gen.frame m g
  · intro m g hpre
    hlo_run
    all_goals first | exact (fun _ => by simp) | exact sem_eq_zero_of_no_sems (show _ from by decide) _ | (refine sem_eq_zero_of_no_sems ?_ _; decide)
  · exact fun m g _ => Cert.Modulate.Gen.frame m g
  · exact fun m g _ => Cert.ModulateIdeal.Gen.frame m g
  · intro m g hpre
    hlo_run
    all_goals first | exact (fun _ => by simp) | exact sem_eq_zero_of_no_sems (show _ from by decide) _ | (refine sem_eq_zero_of_no_sems ?_ _; decide)
  · exact fun m g _ => Cert.QkPrep.Gen.frame m g
  · exact fun m g _ => Cert.QkPrepIdeal.Gen.frame m g
  · intro m g hpre
    hlo_run
    all_goals first | exact (fun _ => by simp) | exact sem_eq_zero_of_no_sems (show _ from by decide) _ | (refine sem_eq_zero_of_no_sems ?_ _; decide)
  · exact fun m g _ => Cert.KcPrep.Gen.frame m g
  · exact fun m g _ => Cert.KcPrepIdeal.Gen.frame m g
  · intro m g hpre
    hlo_run
    all_goals first | exact (fun _ => by simp) | exact sem_eq_zero_of_no_sems (show _ from by decide) _ | (refine sem_eq_zero_of_no_sems ?_ _; decide)
  · exact fun m g _ => Cert.ResLnMod.Gen.frame m g
  · exact fun m g _ => Cert.ResLnModIdeal.Gen.frame m g
  · intro m g hpre
    hlo_run
    all_goals first | exact (fun _ => by simp) | exact sem_eq_zero_of_no_sems (show _ from by decide) _ | (refine sem_eq_zero_of_no_sems ?_ _; decide)
  · exact fun m g _ => Cert.ModVec.Gen.frame m g
  · exact fun m g _ => Cert.ModVecIdeal.Gen.frame m g
  · intro m g hpre
    hlo_run
    all_goals first | exact (fun _ => by simp) | exact sem_eq_zero_of_no_sems (show _ from by decide) _ | (refine sem_eq_zero_of_no_sems ?_ _; decide)
  · trivial
  · exact Cert.Proof.flash
  · trivial
  · exact Cert.Proof.attn_in
  · exact ⟨IdealRules.named_const.statement _ _ _ _ _ rfl, IdealRules.named_const.statement _ _ _ _ _ rfl⟩
  · exact Cert.Proof.gmlp_in
  · trivial
  · exact Cert.Proof.attn_out
  · trivial
  · exact Cert.Proof.gmlp_out
  · trivial
  · exact Cert.Proof.peer_q
  · trivial
  · exact Cert.Proof.ctx_kv
  · trivial
  · exact Cert.Proof.resln
  · trivial
  · exact Cert.Proof.sgu
  · trivial
  · exact Cert.Proof.modulate
  · trivial
  · exact Cert.Proof.qk_prep
  · trivial
  · exact Cert.Proof.kc_prep
  · trivial
  · exact Cert.Proof.resln_mod
  · trivial
  · exact Cert.Proof.modvec⟩

end Cert.Proof

end
